-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x128x4096 : Shape := ⟨3, ![6, 128, 4096]⟩
abbrev S80000x512 : Shape := ⟨2, ![80000, 512]⟩
abbrev S80000x4096 : Shape := ⟨2, ![80000, 4096]⟩
abbrev S80000 : Shape := ⟨1, ![80000]⟩
abbrev S6x128 : Shape := ⟨2, ![6, 128]⟩
abbrev S768x4096 : Shape := ⟨2, ![768, 4096]⟩
abbrev S1x80000 : Shape := ⟨2, ![1, 80000]⟩
abbrev S768x1 : Shape := ⟨2, ![768, 1]⟩
abbrev S768x80000 : Shape := ⟨2, ![768, 80000]⟩
abbrev S512x4096 : Shape := ⟨2, ![512, 4096]⟩
abbrev S512x512 : Shape := ⟨2, ![512, 512]⟩
abbrev S1x512 : Shape := ⟨2, ![1, 512]⟩
abbrev S768x512 : Shape := ⟨2, ![768, 512]⟩
abbrev S128x512 : Shape := ⟨2, ![128, 512]⟩
abbrev S6x128x80000 : Shape := ⟨3, ![6, 128, 80000]⟩

abbrev nBuf : Space → Nat
  | .hbm => 12
  | .vmem => 13
  | .smem => 0
  | _ => 0

abbrev bufTy : (tb : Table) → Fin (tcTables nBuf tb) → BufTy
  | .hbm, ⟨0, _⟩ => ⟨S6x128x4096, .bf16⟩
  | .hbm, ⟨1, _⟩ => ⟨S80000x512, .i8⟩
  | .hbm, ⟨2, _⟩ => ⟨S80000x4096, .i8⟩
  | .hbm, ⟨3, _⟩ => ⟨S80000, .f32⟩
  | .hbm, ⟨4, _⟩ => ⟨S80000, .f32⟩
  | .hbm, ⟨5, _⟩ => ⟨S6x128, .f32⟩
  | .hbm, ⟨6, _⟩ => ⟨S768x4096, .bf16⟩
  | .hbm, ⟨7, _⟩ => ⟨S1x80000, .f32⟩
  | .hbm, ⟨8, _⟩ => ⟨S1x80000, .f32⟩
  | .hbm, ⟨9, _⟩ => ⟨S768x1, .f32⟩
  | .hbm, ⟨10, _⟩ => ⟨S768x80000, .f32⟩
  | .hbm, ⟨11, _⟩ => ⟨S6x128x80000, .f32⟩
  | .local _ .vmem, ⟨0, _⟩ => ⟨S768x4096, .bf16⟩
  | .local _ .vmem, ⟨1, _⟩ => ⟨S512x4096, .i8⟩
  | .local _ .vmem, ⟨2, _⟩ => ⟨S512x4096, .i8⟩
  | .local _ .vmem, ⟨3, _⟩ => ⟨S512x512, .i8⟩
  | .local _ .vmem, ⟨4, _⟩ => ⟨S512x512, .i8⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S768x1, .f32⟩
  | .local _ .vmem, ⟨10, _⟩ => ⟨S768x512, .f32⟩
  | .local _ .vmem, ⟨11, _⟩ => ⟨S768x512, .f32⟩
  | .local _ .vmem, ⟨12, _⟩ => ⟨S512x4096, .bf16⟩
  | _, _ => ⟨S6x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![157], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x128x4096 : Shape := ⟨3, ![6, 128, 4096]⟩
abbrev S80000x512 : Shape := ⟨2, ![80000, 512]⟩
abbrev S80000x4096 : Shape := ⟨2, ![80000, 4096]⟩
abbrev S80000 : Shape := ⟨1, ![80000]⟩
abbrev S6x128 : Shape := ⟨2, ![6, 128]⟩
abbrev S8 : Shape := ⟨1, ![8]⟩
abbrev S1x8x1 : Shape := ⟨3, ![1, 8, 1]⟩
abbrev S80000x1x512 : Shape := ⟨3, ![80000, 1, 512]⟩
abbrev S80000x8x512 : Shape := ⟨3, ![80000, 8, 512]⟩
abbrev S_ : Shape := ⟨0, ![]⟩
abbrev S6x128x8x512 : Shape := ⟨4, ![6, 128, 8, 512]⟩
abbrev S6x128x80000 : Shape := ⟨3, ![6, 128, 80000]⟩
abbrev S1x1x80000 : Shape := ⟨3, ![1, 1, 80000]⟩
abbrev S6x128x1 : Shape := ⟨3, ![6, 128, 1]⟩

abbrev nBuf : Space → Nat
  | .hbm => 46
  | .vmem => 0
  | .smem => 0
  | _ => 0

abbrev bufTy : (tb : Table) → Fin (tcTables nBuf tb) → BufTy
  | .hbm, ⟨0, _⟩ => ⟨S6x128x4096, .bf16⟩
  | .hbm, ⟨1, _⟩ => ⟨S80000x512, .i8⟩
  | .hbm, ⟨2, _⟩ => ⟨S80000x4096, .i8⟩
  | .hbm, ⟨3, _⟩ => ⟨S80000, .f32⟩
  | .hbm, ⟨4, _⟩ => ⟨S80000, .f32⟩
  | .hbm, ⟨5, _⟩ => ⟨S6x128, .f32⟩
  | .hbm, ⟨6, _⟩ => ⟨S8, .i32⟩
  | .hbm, ⟨7, _⟩ => ⟨S1x8x1, .i32⟩
  | .hbm, ⟨8, _⟩ => ⟨S80000x512, .i32⟩
  | .hbm, ⟨9, _⟩ => ⟨S80000x1x512, .i32⟩
  | .hbm, ⟨10, _⟩ => ⟨S80000x8x512, .i32⟩
  | .hbm, ⟨11, _⟩ => ⟨S80000x8x512, .i32⟩
  | .hbm, ⟨12, _⟩ => ⟨S80000x8x512, .i32⟩
  | .hbm, ⟨13, _⟩ => ⟨S_, .i32⟩
  | .hbm, ⟨14, _⟩ => ⟨S80000x8x512, .i32⟩
  | .hbm, ⟨15, _⟩ => ⟨S80000x8x512, .i32⟩
  | .hbm, ⟨16, _⟩ => ⟨S80000x4096, .i32⟩
  | .hbm, ⟨17, _⟩ => ⟨S80000x8x512, .i32⟩
  | .hbm, ⟨18, _⟩ => ⟨S_, .i32⟩
  | .hbm, ⟨19, _⟩ => ⟨S80000x8x512, .i32⟩
  | .hbm, ⟨20, _⟩ => ⟨S80000x8x512, .i32⟩
  | .hbm, ⟨21, _⟩ => ⟨S_, .i32⟩
  | .hbm, ⟨22, _⟩ => ⟨S80000x8x512, .i32⟩
  | .hbm, ⟨23, _⟩ => ⟨S80000x8x512, .i32⟩
  | .hbm, ⟨24, _⟩ => ⟨S80000x8x512, .i32⟩
  | .hbm, ⟨25, _⟩ => ⟨S_, .i32⟩
  | .hbm, ⟨26, _⟩ => ⟨S80000x8x512, .i32⟩
  | .hbm, ⟨27, _⟩ => ⟨S80000x8x512, .i32⟩
  | .hbm, ⟨28, _⟩ => ⟨S_, .i32⟩
  | .hbm, ⟨29, _⟩ => ⟨S80000x8x512, .i32⟩
  | .hbm, ⟨30, _⟩ => ⟨S80000x8x512, .i32⟩
  | .hbm, ⟨31, _⟩ => ⟨S80000x8x512, .bf16⟩
  | .hbm, ⟨32, _⟩ => ⟨S6x128x8x512, .bf16⟩
  | .hbm, ⟨33, _⟩ => ⟨S6x128x80000, .f32⟩
  | .hbm, ⟨34, _⟩ => ⟨S1x1x80000, .f32⟩
  | .hbm, ⟨35, _⟩ => ⟨S6x128x1, .f32⟩
  | .hbm, ⟨36, _⟩ => ⟨S6x128x80000, .f32⟩
  | .hbm, ⟨37, _⟩ => ⟨S6x128x80000, .f32⟩
  | .hbm, ⟨38, _⟩ => ⟨S6x128x80000, .f32⟩
  | .hbm, ⟨39, _⟩ => ⟨S_, .f32⟩
  | .hbm, ⟨40, _⟩ => ⟨S80000, .f32⟩
  | .hbm, ⟨41, _⟩ => ⟨S80000, .f32⟩
  | .hbm, ⟨42, _⟩ => ⟨S1x1x80000, .f32⟩
  | .hbm, ⟨43, _⟩ => ⟨S6x128x80000, .f32⟩
  | .hbm, ⟨44, _⟩ => ⟨S6x128x80000, .f32⟩
  | .hbm, ⟨45, _⟩ => ⟨S6x128x80000, .f32⟩
  | _, _ => ⟨S6x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Value
public import Idealize.ShloMosaic.Lib.Tactic.Stretches

@[expose] public section

set_option maxRecDepth 16384

noncomputable section

/-!
  One run of the kernel's body: from whatever its input buffers hold it writes eight planes of decoded weights to the
  scratch and leaves the block of scores in the result's buffer. Stated for any float values.
-/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The eight stores of the decoded weights, the last first: plane `k` goes to columns `512 k` up to `512 k + 511`. -/
def stores (X2 : S512x4096.Idx → Elt F .i8) (X3 : S512x512.Idx → Elt F .i8) : List (View.Piece (Elt F) S512x4096 .bf16) :=
  [⟨Rect.unit ![0, 3584] S512x512.size inb_S512x4096_S512x512_0_3584,
      k0_pay1 (k0_pay14 (View.ld X2 (Rect.unit (s := S512x4096) ![0, 3584] S512x512.size inb_S512x4096_S512x512_0_3584)) X3)⟩,
    ⟨Rect.unit ![0, 3072] S512x512.size inb_S512x4096_S512x512_0_3072,
      k0_pay13 (k0_pay11 (View.ld X2 (Rect.unit (s := S512x4096) ![0, 3072] S512x512.size inb_S512x4096_S512x512_0_3072))) (k0_pay12 X3)⟩,
    ⟨Rect.unit ![0, 2560] S512x512.size inb_S512x4096_S512x512_0_2560,
      k0_pay10 (View.ld X2 (Rect.unit (s := S512x4096) ![0, 2560] S512x512.size inb_S512x4096_S512x512_0_2560)) X3⟩,
    ⟨Rect.unit ![0, 2048] S512x512.size inb_S512x4096_S512x512_0_2048,
      k0_pay9 (k0_pay8 (View.ld X2 (Rect.unit (s := S512x4096) ![0, 2048] S512x512.size inb_S512x4096_S512x512_0_2048)) X3)⟩,
    ⟨Rect.unit ![0, 1536] S512x512.size inb_S512x4096_S512x512_0_1536,
      k0_pay7 (View.ld X2 (Rect.unit (s := S512x4096) ![0, 1536] S512x512.size inb_S512x4096_S512x512_0_1536)) X3⟩,
    ⟨Rect.unit ![0, 1024] S512x512.size inb_S512x4096_S512x512_0_1024,
      k0_pay6 (View.ld X2 (Rect.unit (s := S512x4096) ![0, 1024] S512x512.size inb_S512x4096_S512x512_0_1024)) X3⟩,
    ⟨Rect.unit ![0, 512] S512x512.size inb_S512x4096_S512x512_0_512,
      k0_pay5 (k0_pay4 (View.ld X2 (Rect.unit (s := S512x4096) ![0, 512] S512x512.size inb_S512x4096_S512x512_0_512)) X3)⟩,
    ⟨Rect.unit ![0, 0] S512x512.size inb_S512x4096_S512x512_0_0,
      k0_pay3 (View.ld X2 (Rect.unit (s := S512x4096) ![0, 0] S512x512.size inb_S512x4096_S512x512_0_0)) X3⟩]

/-- The decoded weights as the scratch holds them after the eight stores. -/
def weights (X2 : S512x4096.Idx → Elt F .i8) (X3 : S512x512.Idx → Elt F .i8) : S512x4096.Idx → Elt F .bf16 :=
  View.canon (stores X2 X3)

/-- The block of scores the body leaves in the result's staging buffer, from what the input buffers hold. -/
def scores (X1 : S768x4096.Idx → Elt F .bf16) (X2 : S512x4096.Idx → Elt F .i8) (X3 : S512x512.Idx → Elt F .i8)
    (X4 X5 : S1x512.Idx → Elt F .f32) (X6 : S768x1.Idx → Elt F .f32) : S768x512.Idx → Elt F .f32 :=
  k0_pay2 X1 (weights X2 X3) X4 X6 X5

/-- Offsets zero in both axes. -/
theorem zero2 : (![0, 0] : Fin 2 → Nat) = fun _ => 0 := funext fun a => by fin_cases a <;> rfl

/-- A buffer held at contents whatever is held at some reading of its view. -/
theorem owns_any (c : Dev nD) {S : Shape} {e : EltTy} (a : Memref sig .tc .vmem S e) (f : a.view.ty.Contents (Elt F)) :
    (View.loc (c : Thread nD τ) a.view ↦[a.view.set]{fullShare} f : sProp 𝕄) ⊢ iprop(∃ d, owns (c : Thread nD τ) a fullShare d) := by
  unfold owns
  iintro H
  iexists a.view.read (Elt F) f; iexists f; isplitr
  · ipureintro; rfl
  · iexact H

/-- The body, run from the six input buffers at any contents and the result's and the scratch at some: it ends with the
    inputs as they were, the result's buffer at the block of scores, and the scratch at some contents. -/
theorem sound_kernel (c : Dev nD) (E : Set ℕ) (i : grid0.Coords)
    (arg1 : Memref sig .tc .vmem S768x4096 .bf16) (harg1 : arg1.IsWhole) (arg2 : Memref sig .tc .vmem S512x4096 .i8) (harg2 : arg2.IsWhole)
    (arg3 : Memref sig .tc .vmem S512x512 .i8) (harg3 : arg3.IsWhole) (arg4 : Memref sig .tc .vmem S1x512 .f32) (harg4 : arg4.IsWhole)
    (arg5 : Memref sig .tc .vmem S1x512 .f32) (harg5 : arg5.IsWhole) (arg6 : Memref sig .tc .vmem S768x1 .f32) (harg6 : arg6.IsWhole)
    (arg7 : Memref sig .tc .vmem S768x512 .f32) (harg7 : arg7.IsWhole) (arg8 : Memref sig .tc .vmem S512x4096 .bf16) (harg8 : arg8.IsWhole)
    (X1 : S768x4096.Idx → Elt F .bf16) (X2 : S512x4096.Idx → Elt F .i8) (X3 : S512x512.Idx → Elt F .i8) (X4 X5 : S1x512.Idx → Elt F .f32)
    (X6 : S768x1.Idx → Elt F .f32) (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ (∃ d, owns (c : Thread nD τ) arg7 fullShare d) ∗ (∃ d, owns (c : Thread nD τ) arg8 fullShare d)
        ∗ (iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare (scores X1 X2 X3 X4 X5 X6) ∗ (∃ d, owns (c : Thread nD τ) arg8 fullShare d)) -∗ K ⟨⟩))
      ⊢ wp frame (wpE (defs₀ (F := F)) Variants.none c none) E
          (cc0_rabitq_scores i arg1 harg1 arg2 harg2 arg3 harg3 arg4 harg4 arg5 harg5 arg6 harg6 arg7 harg7 arg8 harg8) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [View.read_writes_eq_canon _ _ _ (fun y => ⟨_, List.mem_singleton.mpr rfl, by
      rw [Rect.mem_set_unit]; exact fun a => by rw [show (![0, 0] : Fin 2 → Nat) a = 0 from congrFun zero2 a]; exact ⟨Nat.zero_le _, by have := (y a).isLt; omega⟩⟩),
      View.canon_unit_zero zero2]
    sl_open_run
    have h1 : arg1.view.readAt (Elt F) (Rect.unit (s := S768x4096) ![0, 0] S768x4096.size inb_S768x4096_S768x4096_0_0).toLoadRect f1
        = arg1.view.read (Elt F) f1 := View.ld_unit_zero zero2 _ _
    have h3 : arg3.view.readAt (Elt F) (Rect.unit (s := S512x512) ![0, 0] S512x512.size inb_S512x512_S512x512_0_0).toLoadRect f3
        = arg3.view.read (Elt F) f3 := View.ld_unit_zero zero2 _ _
    have h4 : arg4.view.readAt (Elt F) (Rect.unit (s := S1x512) ![0, 0] S1x512.size inb_S1x512_S1x512_0_0).toLoadRect f4
        = arg4.view.read (Elt F) f4 := View.ld_unit_zero zero2 _ _
    have h5 : arg5.view.readAt (Elt F) (Rect.unit (s := S1x512) ![0, 0] S1x512.size inb_S1x512_S1x512_0_0).toLoadRect f5
        = arg5.view.read (Elt F) f5 := View.ld_unit_zero zero2 _ _
    have h6 : arg6.view.readAt (Elt F) (Rect.unit (s := S768x1) ![0, 0] S768x1.size inb_S768x1_S768x1_0_0).toLoadRect f6
        = arg6.view.read (Elt F) f6 := View.ld_unit_zero zero2 _ _
    rw [h1, h3, h4, h5, h6, View.readCov_eq_canon']
    exact congrArg (fun W => k0_pay2 _ W _ _ _) (View.ld_unit_zero (S := S512x4096) zero2 inb_S512x4096_S512x4096_0_0
      (weights (arg2.view.read (Elt F) f2) (arg3.view.read (Elt F) f3)))
  · iapply owns_any; iexact H8

end Cert.KernelIdeal.Body
-- ==== Proof.Region.lean ====
module

public import proofs.«01_k».proof.Proof.Body

@[expose] public section

set_option maxRecDepth 16384

noncomputable section

/-!
  The pipeline's proof data and one step of it: what every staging buffer holds before and after the body at a grid
  point. The blocks of `ex_bytes`, `sign_bits`, `f_add` and `f_rescale` at the last point overhang their arrays, so
  their buffers hold a block filled out past the array's end by words nothing names.
-/

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (O : (c : Dev nD) → Fin cfg0.N → S768x512.Idx → Elt F .f32)

/-- What the staging buffer of `x` holds at point `t`: the whole array. -/
def xB (c : Dev nD) (t : Fin cfg0.N) : S768x4096.Idx → Elt F .bf16 := iblk m c 0 t
/-- What the staging buffer of `ex_bytes` holds at point `t`: the block, filled out by `d` past the array's end. -/
def eB (c : Dev nD) (t : Fin cfg0.N) (d : S512x4096.Idx → Elt F .i8) : S512x4096.Idx → Elt F .i8 :=
  win0_1.fill (grid0.coords t) d (iblk m c 1 t)
/-- The same of `sign_bits`. -/
def sB (c : Dev nD) (t : Fin cfg0.N) (d : S512x512.Idx → Elt F .i8) : S512x512.Idx → Elt F .i8 :=
  win0_2.fill (grid0.coords t) d (iblk m c 2 t)
/-- The same of `f_add`. -/
def aB (c : Dev nD) (t : Fin cfg0.N) (d : S1x512.Idx → Elt F .f32) : S1x512.Idx → Elt F .f32 :=
  win0_3.fill (grid0.coords t) d (iblk m c 3 t)
/-- The same of `f_rescale`. -/
def rB (c : Dev nD) (t : Fin cfg0.N) (d : S1x512.Idx → Elt F .f32) : S1x512.Idx → Elt F .f32 :=
  win0_4.fill (grid0.coords t) d (iblk m c 4 t)
/-- What the staging buffer of `g` holds at point `t`: the whole array. -/
def gB (c : Dev nD) (t : Fin cfg0.N) : S768x1.Idx → Elt F .f32 := iblk m c 5 t

/-- A word for the bytes nothing names. -/
def z8 {S : Shape} : S.Idx → Elt F .i8 := fun _ => (0#8 : BitVec 8)
/-- A word for the floats nothing names. -/
def z32 {S : Shape} : S.Idx → Elt F .f32 := fun _ => Scalar.ofBits .f32 0#32

/-- The proof data of the pipeline on device `c`: the arrays as the region finds them; after the body at a point every
    input's buffer at its block and the result's at `O`; the invariant the scratch buffer at some contents. -/
def dats (_ : Fin 1) (c : Dev nD) : Dat τ (Elt F) Unit ℕ (UR sig nD τ) ℕ cfg0 c where
  A w := V m c (Pipeline.arrRef spec0 w)
  after w t := match w with
    | ⟨0, _⟩ => xB m c t
    | ⟨1, _⟩ => eB m c t z8
    | ⟨2, _⟩ => sB m c t z8
    | ⟨3, _⟩ => aB m c t z32
    | ⟨4, _⟩ => rB m c t z32
    | ⟨5, _⟩ => gB m c t
    | ⟨6, _⟩ => O c t
  Φ _ := Pipeline.ΦA spec0 c
  q _ := fullShare
  owed _ := 0

/-- Before the body at a point, the buffer of `x` holds the whole array. -/
theorem before_0 (c : Dev nD) (t : Fin cfg0.N) (d) : (dats m O 0 c).before 0 t d = xB m c t :=
  before0_0_of m (dats m O 0 c) rfl (fun _ => rfl) t d
/-- The buffer of `ex_bytes` holds the point's block, filled out past the array's end. -/
theorem before_1 (c : Dev nD) (t : Fin cfg0.N) (d) : (dats m O 0 c).before 1 t d = eB m c t d := by
  unfold Dat.before; rw [if_pos (fetch0_1 t)]; rfl
/-- The buffer of `sign_bits`, likewise. -/
theorem before_2 (c : Dev nD) (t : Fin cfg0.N) (d) : (dats m O 0 c).before 2 t d = sB m c t d := by
  unfold Dat.before; rw [if_pos (fetch0_2 t)]; rfl
/-- The buffer of `f_add`, likewise. -/
theorem before_3 (c : Dev nD) (t : Fin cfg0.N) (d) : (dats m O 0 c).before 3 t d = aB m c t d := by
  unfold Dat.before; rw [if_pos (fetch0_3 t)]; rfl
/-- The buffer of `f_rescale`, likewise. -/
theorem before_4 (c : Dev nD) (t : Fin cfg0.N) (d) : (dats m O 0 c).before 4 t d = rB m c t d := by
  unfold Dat.before; rw [if_pos (fetch0_4 t)]; rfl
/-- The buffer of `g` holds the whole array. -/
theorem before_5 (c : Dev nD) (t : Fin cfg0.N) (d) : (dats m O 0 c).before 5 t d = gB m c t :=
  before0_5_of m (dats m O 0 c) rfl (fun _ => rfl) t d

/-- The scratch buffer held whole, at some contents. -/
theorem owns_scratch (c : Dev nD) (d : S512x4096.Idx → Elt F .bf16) :
    (owns (c : Thread nD τ) (Memref.whole cc0_scratch0) fullShare d : sProp 𝕄)
      ⊢ iprop(∃ f : Buf (Elt F) ((c : Thread nD τ).loc cc0_scratch0), ((c : Thread nD τ).loc cc0_scratch0) ↦{fullShare} f) := by
  rw [owns_whole_eq]; iintro ⟨%f8, -, H8⟩; iexists f8; iexact H8

/-- Which windows' staging buffers the obligation says nothing of: the result's if `b`, no other. -/
abbrev fgt (b : Bool) : Fin cfg0.W → Bool :=
  fun | 0 => false | 1 => false | 2 => false | 3 => false | 4 => false | 5 => false | 6 => b | ⟨_ + 7, h⟩ => absurd h (Nat.not_lt.2 (Nat.le_add_left _ _))

/-- Whatever the obligation says of the result's buffer before the body, it is held at some contents. -/
theorem before_6 (b : Bool) (c : Dev nD) (t : Fin cfg0.N) :
    (match (generalizing := false) b with
      | true => iprop(∃ X, owns (c : Thread nD τ) (st0_6 t) fullShare X)
      | false => iprop(∃ d, owns (c : Thread nD τ) (st0_6 t) fullShare ((dats m O 0 c).before 6 t d)) : sProp 𝕄)
      ⊢ iprop(∃ X : S768x512.Idx → Elt F .f32, owns (c : Thread nD τ) (st0_6 t) fullShare X) := by
  cases b
  · iintro ⟨%d, H⟩; iexists _; iexact H
  · iintro ⟨%d, H⟩; iexists d; iexact H

/-- The result's buffer after the body, as the obligation describes it: at contents that agree with `O` on the part
    inside the array, unless the obligation says nothing of it. -/
theorem after_6 (b : Bool) (c : Dev nD) (t : Fin cfg0.N) (X : S768x512.Idx → Elt F .f32)
    (h : b = true ∨ win0_6.cut (grid0.coords t) X = win0_6.cut (grid0.coords t) (O c t)) :
    (owns (c : Thread nD τ) (st0_6 t) fullShare X : sProp 𝕄) ⊢
    (match (generalizing := false) b with
      | true => iprop(∃ X, owns (c : Thread nD τ) (st0_6 t) fullShare X)
      | false => iprop(∃ d, owns (c : Thread nD τ) (st0_6 t) fullShare (win0_6.fill (grid0.coords t) d (win0_6.cut (grid0.coords t) (O c t))))) := by
  cases b
  · rw [← h.resolve_left Bool.false_ne_true]
    iintro H; iexists X; rw [win0_6.fill_cut]; iexact H
  · iintro H; iexists X; iexact H

/-- The body at point `t`, from the input buffers at their blocks and the result's at anything, the scratch at
    anything: it ends with the input buffers unchanged and the result's at the block of scores. -/
theorem step (c : Dev nD) (t : Fin cfg0.N) (d1 : S512x4096.Idx → Elt F .i8) (d2 : S512x512.Idx → Elt F .i8)
    (d3 d4 : S1x512.Idx → Elt F .f32) (K : PUnit → sProp 𝕄) :
    iprop(Pipeline.ΦA spec0 c ∗ owns (c : Thread nD τ) (st0_0 t) fullShare (xB m c t) ∗ owns (c : Thread nD τ) (st0_1 t) fullShare (eB m c t d1)
        ∗ owns (c : Thread nD τ) (st0_2 t) fullShare (sB m c t d2) ∗ owns (c : Thread nD τ) (st0_3 t) fullShare (aB m c t d3)
        ∗ owns (c : Thread nD τ) (st0_4 t) fullShare (rB m c t d4) ∗ owns (c : Thread nD τ) (st0_5 t) fullShare (gB m c t)
        ∗ (∃ X, owns (c : Thread nD τ) (st0_6 t) fullShare X)
        ∗ (iprop(Pipeline.ΦA spec0 c ∗ owns (c : Thread nD τ) (st0_0 t) fullShare (xB m c t) ∗ owns (c : Thread nD τ) (st0_1 t) fullShare (eB m c t d1)
        ∗ owns (c : Thread nD τ) (st0_2 t) fullShare (sB m c t d2) ∗ owns (c : Thread nD τ) (st0_3 t) fullShare (aB m c t d3)
        ∗ owns (c : Thread nD τ) (st0_4 t) fullShare (rB m c t d4) ∗ owns (c : Thread nD τ) (st0_5 t) fullShare (gB m c t)
        ∗ owns (c : Thread nD τ) (st0_6 t) fullShare (scores (xB m c t) (eB m c t d1) (sB m c t d2) (aB m c t d3) (rB m c t d4) (gB m c t))) -∗ K ⟨⟩))
      ⊢ wp frame (wpE (defs₀ (F := F)) Variants.none c none) Set.univ (bodyAt0 t) K := by
  unfold Pipeline.ΦA
  rw [scopedRest0_eq]
  iintro ⟨⟨⟨%f, Hs⟩, Hp⟩, H0, H1, H2, H3, H4, H5, H6, Hk⟩
  iapply (sound_kernel (F := F) c Set.univ (grid0.coords t) _ _ _ _ _ _ _ _ _ _ _ _ _ _ _ _
    (xB m c t) (eB m c t d1) (sB m c t d2) (aB m c t d3) (rB m c t d4) (gB m c t) K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]
  · iexists f; rw [owns_whole_eq]; iexists f; isplitr; · ipureintro; rfl
    iexact Hs
  iintro ⟨H0, H1, H2, H3, H4, H5, H6, ⟨%d8, H8⟩⟩
  iapply Hk
  isplitl [Hp H8]
  · isplitl [H8]
    · iapply owns_scratch; iexact H8
    · iexact Hp
  isplitl [H0]; · iexact H0
  isplitl [H1]; · iexact H1
  isplitl [H2]; · iexact H2
  isplitl [H3]; · iexact H3
  isplitl [H4]; · iexact H4
  isplitl [H5]; · iexact H5
  iexact H6

/-- The body's obligation: on the part of the result's buffer inside the array it leaves the block of scores, where
    that part is `O` whatever the words past the inputs' ends; or nothing is said of the result's buffer. -/
theorem body_obligation (b : Bool) (h : ∀ c t d1 d2 d3 d4, b = true ∨ win0_6.cut (grid0.coords t)
      (scores (xB m c t) (eB m c t d1) (sB m c t d2) (aB m c t d3) (rB m c t d4) (gB m c t)) = win0_6.cut (grid0.coords t) (O c t))
    (c : Dev nD) :
    BodyObligationLoose (dats m O 0 c) (defs₀ (F := F)) Variants.none () Set.univ (fgt b) := fun t => by
  rw [bigSep_W0, bigSep_W0]
  simp only
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl]
  iintro ⟨HΦ, Ho, ⟨%d0, H0⟩, ⟨%d1, H1⟩, ⟨%d2, H2⟩, ⟨%d3, H3⟩, ⟨%d4, H4⟩, ⟨%d5, H5⟩, H6⟩
  rw [before_0 m O c t d0, before_1 m O c t d1, before_2 m O c t d2, before_3 m O c t d3, before_4 m O c t d4, before_5 m O c t d5]
  iapply (step m c t d1 d2 d3 d4 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iapply (before_6 m O b c t); iexact H6
  iintro ⟨HΦ, H0, H1, H2, H3, H4, H5, H6⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (eB m c t z8)))
    rw [show win0_1.cut (grid0.coords t) (eB m c t z8) = iblk m c 1 t from win0_1.cut_fill _ _ _]; exact BI.Entails.refl _
  isplitl [H2]
  · iexists d2
    change _ ⊢ owns (c : Thread nD τ) (st0_2 t) fullShare (win0_2.fill (grid0.coords t) d2 (win0_2.cut (grid0.coords t) (sB m c t z8)))
    rw [show win0_2.cut (grid0.coords t) (sB m c t z8) = iblk m c 2 t from win0_2.cut_fill _ _ _]; exact BI.Entails.refl _
  isplitl [H3]
  · iexists d3
    change _ ⊢ owns (c : Thread nD τ) (st0_3 t) fullShare (win0_3.fill (grid0.coords t) d3 (win0_3.cut (grid0.coords t) (aB m c t z32)))
    rw [show win0_3.cut (grid0.coords t) (aB m c t z32) = iblk m c 3 t from win0_3.cut_fill _ _ _]; exact BI.Entails.refl _
  isplitl [H4]
  · iexists d4
    change _ ⊢ owns (c : Thread nD τ) (st0_4 t) fullShare (win0_4.fill (grid0.coords t) d4 (win0_4.cut (grid0.coords t) (rB m c t z32)))
    rw [show win0_4.cut (grid0.coords t) (rB m c t z32) = iblk m c 4 t from win0_4.cut_fill _ _ _]; exact BI.Entails.refl _
  isplitl [H5]; · iexact H5
  exact after_6 O b c t _ (h c t d1 d2 d3 d4)

end Cert.KernelIdeal.Region
-- ==== Proof.Frames.lean ====
module

public import proofs.«01_k».proof.Proof.Region

@[expose] public section

set_option maxRecDepth 16384

noncomputable section

/-!
  The frame, at any float values: every run of the kernel's program ends with the six argument arrays as launched and
  every counter at zero. Nothing is said of the result here.
-/

namespace Cert.KernelIdeal.Frames

open Cert.KernelIdeal Cert.KernelIdeal.Gen Cert.KernelIdeal.Region
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The one buffer the lines after the region write: the reshaped result. -/
theorem tail_writes : ∀ ops ∈ ([hostOps1] : List (List (HloOp τ sig (Elt F)))), ∀ op ∈ ops, ∀ b : Ref sig .tc,
    Proc.devRef .tc b ∈ op.writes → b ∈ ({main_v5} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  rw [Finset.mem_singleton]
  by_contra hne
  exact StableHlo.devRef_ne_of_ne hne hb

set_option backward.isDefEq.respectTransparency.types false in
/-- Every run ends with the arrays and the buffers beside them as the region found them, the results aside, and with
    every counter at zero. -/
theorem run_forget : θ_run defs (onTc (τ := τ) (main (F := F))) (s₀ m ρ) (fun r =>
    Pipeline.RDat.FramePostR cfg0 (fun c => (dats m (fun _ _ => z32) 0 c).toRForget (fgt true)) {main_v5} (fun c b => V m c b) r
      ∧ r.2.sem = fun _ => 0) :=
  Pipeline.θ_run_frame_around_T_forget cfgs (dats m fun _ _ => z32) 0 launch0 defs₀ Variants.none (fgt true) {main_v5} m ρ main
    (body_obligation m _ true fun _ _ _ _ _ _ => Or.inl rfl)
    (fun c => (dats m _ 0 c).share_full fun _ => rfl) (fun _ _ => rfl) (V0 m) [hostOps1] sfx_sub sfx_fresh sfx_keeps
    tail_writes (hmain m Variants.none) (fun _ _ => rfl) (fun _ _ => rfl) (Q' := _) (hQ' := fun _ h => h)

/-- The frame at any float values. -/
theorem frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r h => ⟨fun c =>
    have hb : ∀ b : Ref sig .tc, b ∈ Pipeline.restRefs sig spec0 → b ∉ ({main_v5} : Finset (Ref sig .tc)) →
        r.2.mem ((c.tc : Thread nD τ).loc b) = V m c b := fun b h1 h2 => (h.1 c).2 b (Finset.mem_sdiff.mpr ⟨h1, h2⟩)
    ⟨(hb main_arg0 (Pipeline.mem_restRefs_of main_arg0 (by decide) (by decide)) (by decide)).trans (V_main_arg0 m c),
      (Pipeline.RDat.FramePostR.arr_in h.1 c 2 rfl).trans (V_main_arg1 m c),
      (Pipeline.RDat.FramePostR.arr_in h.1 c 1 rfl).trans (V_main_arg2 m c),
      (hb main_arg3 (Pipeline.mem_restRefs_of main_arg3 (by decide) (by decide)) (by decide)).trans (V_main_arg3 m c),
      (hb main_arg4 (Pipeline.mem_restRefs_of main_arg4 (by decide) (by decide)) (by decide)).trans (V_main_arg4 m c),
      (hb main_arg5 (Pipeline.mem_restRefs_of main_arg5 (by decide) (by decide)) (by decide)).trans (V_main_arg5 m c)⟩, h.2⟩)
    (run_forget m ρ)

end Cert.KernelIdeal.Frames
-- ==== Proof.KernelFrame.lean ====
module

public import proofs.«01_k».proof.Proof.Frames
public import proofs.«01_k».proof.Proof.Gen.Kernel.Frame

@[expose] public section

set_option maxRecDepth 16384

/-!
  The kernel's program and its idealization are one text printed twice (no rewrite was applied), so they are the same
  program at any float values, and the frame proved of one is the frame of the other.
-/

namespace Cert.Kernel.Same

open Idealize.ShloMosaic Idealize.ShloMosaic.TcCoe Idealize.SL.Sem

variable {F : FTy → Type} [FloatOps F]

/-- The two programs' `@main` are one. -/
theorem main_eq : Cert.Kernel.main (F := F) = Cert.KernelIdeal.main (F := F) := rfl

/-- The two programs' kernel tables are one. -/
theorem defs₀_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl

/-- The two programs' tables are one. -/
theorem defs_eq : Cert.Kernel.defs (F := F) = Cert.KernelIdeal.defs (F := F) := congrArg (Pipeline.defs _) defs₀_eq

open Cert.Kernel in
/-- The frame of the kernel's program at any float values: the arguments end as launched and every counter at zero. -/
theorem frame (m : (ℓ : Loc nD τ sig) → Buf (Elt F) ℓ) (ρ : Dev nD → PrngReg) :
    θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) := by
  rw [defs_eq]
  exact Cert.KernelIdeal.Frames.frame m ρ

end Cert.Kernel.Same
-- ==== Proof.Bytes.lean ====
module

public import Mathlib.Tactic.IntervalCases
public import Mathlib.Tactic.NormNum
public import Idealize.ShloMosaic.Lib.BitcastFour

@[expose] public section

/-!
  Integer arithmetic of the codes, free of any program. A weight is the odd number `2 (32 b + e) - 63`, where `b` is one
  sign bit and `e` the low five bits of a byte. The kernel decodes four such bytes at once, packed in a 32-bit word; this
  file says what one byte of the decoded word is.
-/

namespace Cert.Bytes

/-- The weight a byte `e` of exponent bits and bit `k` of a byte `s` of sign bits stand for: `2 (32 b + e mod 32) - 63`. -/
def code (e s : BitVec 8) (k : Nat) : Int := 2 * (32 * (if s.getLsbD k then 1 else 0) + (e.toNat % 32 : Nat)) - 63

/-- Byte `i` of a word. -/
def byte (i : Nat) (W : BitVec 32) : BitVec 8 := W.extractLsb' (8 * i) 8

/-- A bit of a byte of a word is a bit of the word. -/
theorem getLsbD_byte (i q : Nat) (hq : q < 8) (W : BitVec 32) : (byte i W).getLsbD q = W.getLsbD (8 * i + q) := by
  simp [byte, hq]

/-- A byte's value as a digit of the word's. -/
theorem toNat_byte (i : Nat) (W : BitVec 32) : (byte i W).toNat = W.toNat / 2 ^ (8 * i) % 256 := by
  simp [byte, BitVec.extractLsb'_toNat, Nat.shiftRight_eq_div_pow]

/-- The words the four bytes are decoded by: `e` the packed exponent bytes, `t` the packed sign bytes with the wanted bit
    of each moved to bit 6. -/
def decode (e t : BitVec 32) : BitVec 32 :=
  ((((e <<< 1 &&& 1044266558#32) ||| (t &&& 1077952576#32)) ||| 2172748161#32) - 1077952576#32) ^^^ 2155905152#32

/-- The same on one byte. -/
def decode8 (e : BitVec 8) (b : Bool) : BitVec 8 :=
  ((((e <<< 1 &&& 62#8) ||| (if b then 64#8 else 0#8)) ||| 129#8) - 64#8) ^^^ 128#8

/-- A word whose bytes are all 64 or more loses 64 in each byte, with no borrow between them. -/
theorem byte_sub (W : BitVec 32) (h : ∀ i < 4, 64 ≤ (byte i W).toNat) (i : Nat) (hi : i < 4) :
    byte i (W - 1077952576#32) = byte i W - 64#8 := by
  have h0 := h 0 (by omega); have h1 := h 1 (by omega); have h2 := h 2 (by omega); have h3 := h 3 (by omega)
  rw [toNat_byte] at h0 h1 h2 h3
  apply BitVec.eq_of_toNat_eq
  rw [BitVec.toNat_sub, toNat_byte, toNat_byte, BitVec.toNat_sub]
  have hW := W.isLt
  norm_num at h0 h1 h2 h3 hW ⊢
  interval_cases i <;> norm_num <;> omega

/-- The packed bytes before the subtraction, byte by byte. -/
theorem byte_pre (e t : BitVec 32) (i : Nat) (hi : i < 4) :
    byte i (((e <<< 1 &&& 1044266558#32) ||| (t &&& 1077952576#32)) ||| 2172748161#32)
      = ((byte i e <<< 1 &&& 62#8) ||| (if t.getLsbD (8 * i + 6) then 64#8 else 0#8)) ||| 129#8 := by
  apply BitVec.eq_of_getLsbD_eq
  intro q hq
  interval_cases i <;> interval_cases q <;> cases h : t.getLsbD _ <;> simp [byte, BitVec.getLsbD_shiftLeft, h] <;>
    simpa using h

/-- What is set before the subtraction keeps every byte at 64 or more. -/
theorem pre_ge (e : BitVec 8) (b : Bool) :
    64 ≤ (((e <<< 1 &&& 62#8) ||| (if b then 64#8 else 0#8)) ||| 129#8).toNat := by
  revert e b; decide +kernel

/-- Byte `i` of the decoded word is the decoding of byte `i`. -/
theorem byte_decode (e t : BitVec 32) (i : Nat) (hi : i < 4) :
    byte i (decode e t) = decode8 (byte i e) (t.getLsbD (8 * i + 6)) := by
  unfold decode decode8
  rw [← byte_pre e t i hi, ← byte_sub _ (fun j hj => by rw [byte_pre e t j hj]; exact pre_ge _ _) i hi]
  apply BitVec.eq_of_getLsbD_eq
  intro q hq
  rw [BitVec.getLsbD_xor, getLsbD_byte _ _ hq, getLsbD_byte _ _ hq, BitVec.getLsbD_xor]
  congr 1
  interval_cases i <;> interval_cases q <;> rfl

/-- The decoded byte, read as a signed number, is the weight. -/
theorem toInt_decode8 (e : BitVec 8) (b : Bool) :
    (decode8 e b).toInt = 2 * (32 * (if b then 1 else 0) + (e.toNat % 32 : Nat)) - 63 := by
  revert e b; decide +kernel

/-- One bit of a byte, taken out of the byte widened to a word by a shift and a mask. -/
theorem bit_word (s : BitVec 8) (k : Nat) (hk : k < 8) :
    (s.setWidth 32).sshiftRight' (BitVec.ofNat 32 k) &&& 1#32 = if s.getLsbD k then 1#32 else 0#32 := by
  revert s; interval_cases k <;> decide +kernel

/-- The word arithmetic of the definition, at one bit and one byte. -/
theorem word_code (e : BitVec 8) (b : Bool) :
    (2#32 * (((if b then 1#32 else 0#32) <<< 5#32) + (e.setWidth 32 &&& 31#32)) - 63#32).toInt
      = 2 * (32 * (if b then 1 else 0) + (e.toNat % 32 : Nat)) - 63 := by
  revert e b; decide +kernel

/-- The weight by 32-bit arithmetic on the widened bytes, as its definition writes it. -/
theorem toInt_word (e s : BitVec 8) (k : Nat) (hk : k < 8) :
    (2#32 * ((((s.setWidth 32).sshiftRight' (BitVec.ofNat 32 k) &&& 1#32) <<< 5#32) + (e.setWidth 32 &&& 31#32)) - 63#32).toInt
      = code e s k := by
  rw [bit_word s k hk, word_code]; rfl

end Cert.Bytes
-- ==== Proof.Planes.lean ====
module

public import proofs.«01_k».proof.Proof.Body
public import proofs.«01_k».proof.Proof.Bytes
public import Idealize.ShloMosaic.Lib.BitcastFour
public import Idealize.ShloMosaic.PureOps.Ideal.Laws

@[expose] public section

set_option maxRecDepth 16384

noncomputable section

/-!
  The decoded weights, exactly: what one block of the scratch holds, entry by entry. All eight planes are one function of
  the packed exponent bytes and the shifted sign bytes.
-/

namespace Cert.KernelIdeal.Planes

open Cert.KernelIdeal Cert.KernelIdeal.Gen Cert.KernelIdeal.Body Cert.Bytes
open Idealize.ShloMosaic Idealize.ShloMosaic.ValueIdx

/-- One plane of weights from its bytes of exponent bits and the shifted words of sign bits. -/
def plane (E : IVec S512x512 8) (T : IVec S128x512 32) : FVec Ideal S512x512 .bf16 :=
  sitofp .bf16 (bitcast S512x512 8 (fun i => decode (bitcast S128x512 32 E bitcasts_S512x512_w8_S128x512_w32 i) (T i))
    bitcasts_S128x512_w32_S512x512_w8)

/-- The sign bytes packed in words. -/
def packed (S : IVec S512x512 8) : IVec S128x512 32 := bitcast S128x512 32 S bitcasts_S512x512_w8_S128x512_w32

/-- Row `a`, lane `l` of words read as bytes is byte `a % 4` of word `a / 4` of that lane. -/
theorem unpack_apply (W : IVec S128x512 32) (a : Fin 512) (l : Fin 512) :
    bitcast S512x512 8 W bitcasts_S128x512_w32_S512x512_w8 (ix2 a l)
      = byte (a.val % 4) (W (ix2 (⟨a.val / 4, by omega⟩ : Fin 128) l)) := by
  apply BitVec.eq_of_getLsbD_eq
  intro q hq
  rw [bitcast_getLsbD _ _ _ q hq (by decide), getLsbD_byte _ _ hq]
  have hrow : Shape.row S512x512 (ix2 a l) = a.val := rfl
  have e1 : (Shape.row S512x512 (ix2 a l) * 8 + q) / 32 = a.val / 4 := by rw [hrow]; omega
  have e2 : (Shape.row S512x512 (ix2 a l) * 8 + q) % 32 = 8 * (a.val % 4) + q := by rw [hrow]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by decide))

/-- Bit `q` of byte `a % 4` of packed word `a / 4` is bit `q` of byte `a`. -/
theorem packed_bit (S : IVec S512x512 8) (a : Fin 512) (l : Fin 512) (q : Nat) (hq : q < 8) :
    (packed S (ix2 (⟨a.val / 4, by omega⟩ : Fin 128) l)).getLsbD (8 * (a.val % 4) + q) = (S (ix2 a l)).getLsbD q := by
  unfold packed
  rw [bitcast_8_32_getLsbD_ix2 S _ _ l (8 * (a.val % 4) + q) (by omega) a (by show a.val = 4 * (a.val / 4) + _; omega)]
  congr 1; omega

/-- Byte `a % 4` of packed word `a / 4` is byte `a`. -/
theorem byte_packed (S : IVec S512x512 8) (a : Fin 512) (l : Fin 512) :
    byte (a.val % 4) (packed S (ix2 (⟨a.val / 4, by omega⟩ : Fin 128) l)) = S (ix2 a l) := by
  apply BitVec.eq_of_getLsbD_eq
  intro q hq
  rw [getLsbD_byte _ _ hq, packed_bit S a l q hq]

/-- A plane's entry at row `a`, lane `l`: the weight of that exponent byte and bit `k` of that sign byte, when the shift
    has moved bit `k` of each sign byte to bit 6. -/
theorem plane_apply (E S : IVec S512x512 8) (T : IVec S128x512 32) (k : Nat) (hk : k < 8) (a l : Fin 512)
    (hT : ∀ i, i < 4 → ∀ j, (T j).getLsbD (8 * i + 6) = (packed S j).getLsbD (8 * i + k)) :
    plane E T (ix2 a l) = (((code (E (ix2 a l)) (S (ix2 a l)) k : ℤ) : ℝ) : EReal) := by
  show (((((bitcast S512x512 8 _ bitcasts_S128x512_w32_S512x512_w8 (ix2 a l)).toInt : ℤ) : ℝ)) : EReal) = _
  rw [unpack_apply]
  have hi : a.val % 4 < 4 := by omega
  rw [show bitcast S128x512 32 E bitcasts_S512x512_w8_S128x512_w32 = packed E from rfl, byte_decode _ _ _ hi, toInt_decode8,
    byte_packed, hT _ hi, packed_bit S a l k hk]
  rfl

/-- A left shift of the packed sign words by `6 - k` moves bit `k` of each byte to bit 6. -/
theorem shl_bit (S : IVec S512x512 8) (n : BitVec 32) (k : Nat) (hk : n.toNat + k = 6) (i : Nat) (hi : i < 4) (j : S128x512.Idx) :
    (shli (packed S) (broadcast S128x512 n) j).getLsbD (8 * i + 6) = (packed S j).getLsbD (8 * i + k) := by
  show (if n.toNat < 32 then packed S j <<< n else _ : BitVec 32).getLsbD _ = _
  rw [if_pos (by omega), BitVec.shiftLeft_eq', BitVec.getLsbD_shiftLeft]
  rw [decide_eq_true (by omega : 8 * i + 6 < 32), decide_eq_false (by omega : ¬ 8 * i + 6 < n.toNat)]
  simp only [Bool.not_false, Bool.true_and]
  congr 1; omega

/-- A right shift by one moves bit 7 of each byte to bit 6. -/
theorem shr_bit (S : IVec S512x512 8) (i : Nat) (hi : i < 4) (j : S128x512.Idx) :
    (shrui (packed S) (broadcast S128x512 1#32) j).getLsbD (8 * i + 6) = (packed S j).getLsbD (8 * i + 7) := by
  show (packed S j >>> 1#32 : BitVec 32).getLsbD _ = _
  rw [BitVec.ushiftRight_eq', BitVec.getLsbD_ushiftRight]
  congr 1; show 1 + _ = _; omega

variable (E S : IVec S512x512 8)

/-- What the body stores as plane 0: the plane of the sign words shifted left by 6. -/
theorem pay3_eq : k0_pay3 (F := Ideal) E S = plane E (shli (packed S) (broadcast S128x512 6#32)) := by
  unfold k0_pay3; dsimp only; rw [shapeCast_self]; rfl
/-- What the body stores as plane 1: the plane of the sign words shifted left by 5. -/
theorem pay5_eq : k0_pay5 (F := Ideal) (k0_pay4 (F := Ideal) E S) = plane E (shli (packed S) (broadcast S128x512 5#32)) := by
  unfold k0_pay5; dsimp only; rw [shapeCast_self]; rfl
/-- What the body stores as plane 2: the plane of the sign words shifted left by 4. -/
theorem pay6_eq : k0_pay6 (F := Ideal) E S = plane E (shli (packed S) (broadcast S128x512 4#32)) := by
  unfold k0_pay6; dsimp only; rw [shapeCast_self]; rfl
/-- What the body stores as plane 3: the plane of the sign words shifted left by 3. -/
theorem pay7_eq : k0_pay7 (F := Ideal) E S = plane E (shli (packed S) (broadcast S128x512 3#32)) := by
  unfold k0_pay7; dsimp only; rw [shapeCast_self]; rfl
/-- What the body stores as plane 4: the plane of the sign words shifted left by 2. -/
theorem pay9_eq : k0_pay9 (F := Ideal) (k0_pay8 (F := Ideal) E S) = plane E (shli (packed S) (broadcast S128x512 2#32)) := by
  unfold k0_pay9; dsimp only; rw [shapeCast_self]; rfl
/-- What the body stores as plane 5: the plane of the sign words shifted left by 1. -/
theorem pay10_eq : k0_pay10 (F := Ideal) E S = plane E (shli (packed S) (broadcast S128x512 1#32)) := by
  unfold k0_pay10; dsimp only; rw [shapeCast_self]; rfl
/-- What the body stores as plane 6: the plane of the sign words shifted left by 0. -/
theorem pay13_eq : k0_pay13 (F := Ideal) (k0_pay11 (F := Ideal) E) (k0_pay12 (F := Ideal) S) = plane E (shli (packed S) (broadcast S128x512 0#32)) := by
  unfold k0_pay13; dsimp only; rw [shapeCast_self]; rfl
/-- What the body stores as plane 7: the plane of the sign words shifted right by 1. -/
theorem pay14_eq : k0_pay1 (F := Ideal) (k0_pay14 (F := Ideal) E S) = plane E (shrui (packed S) (broadcast S128x512 1#32)) := by
  unfold k0_pay1; dsimp only; rw [shapeCast_self]; rfl

end Cert.KernelIdeal.Planes
-- ==== Proof.Weights.lean ====
module

public import proofs.«01_k».proof.Proof.Planes
public import Idealize.ShloMosaic.Lib.MatmulPlain

@[expose] public section

set_option maxRecDepth 16384

noncomputable section

/-!
  What one block computes, exactly: the scratch's entries as weights, and the block of scores entry by entry.
-/

namespace Cert.KernelIdeal.Weights

open Cert.KernelIdeal Cert.KernelIdeal.Gen Cert.KernelIdeal.Body Cert.Bytes Cert.KernelIdeal.Planes
open Idealize.ShloMosaic
open Idealize.ShloMosaic.ValueIdx (ix2)

variable (X2 : S512x4096.Idx → Elt Ideal .i8) (X3 : S512x512.Idx → Elt Ideal .i8)

/-- The weights of a block as a function of the scratch's index: column `j` takes its exponent byte at `j`, and bit
    `j / 512` of the sign byte at `j % 512`. -/
def weightAt (y : S512x4096.Idx) : Elt Ideal .bf16 :=
  (((code (X2 y) (X3 (ix2 (y 0) (⟨(y 1).val % 512, Nat.mod_lt _ (by decide)⟩ : Fin 512))) ((y 1).val / 512) : ℤ) : ℝ) : EReal)

/-- One of the eight stores: plane `k` at columns from `512 k` holds the weights of those columns. -/
theorem store_eq (k c : Nat) (hk : k < 8) (hc : c = 512 * k) (inb : ∀ a, (![0, c] : Fin 2 → Nat) a + S512x512.size a ≤ S512x4096.size a)
    (T : IVec S128x512 32) (hT : ∀ i, i < 4 → ∀ j, (T j).getLsbD (8 * i + 6) = (packed X3 j).getLsbD (8 * i + k))
    (x : S512x512.Idx) :
    plane (View.ld X2 (Rect.unit (s := S512x4096) ![0, c] S512x512.size inb)) T x
      = weightAt X2 X3 ((Rect.unit (s := S512x4096) ![0, c] S512x512.size inb).emb x) := by
  obtain ⟨a, l, rfl⟩ : ∃ a l : Fin 512, x = ix2 a l := ⟨x 0, x 1, funext fun i => by fin_cases i <;> rfl⟩
  rw [plane_apply _ X3 T k hk a l hT]
  unfold weightAt
  have e0 : ((Rect.unit (s := S512x4096) ![0, c] S512x512.size inb).emb (ix2 a l) 0).val = a.val := by
    rw [Rect.emb_apply]; show 0 + 1 * a.val = _; omega
  have e1 : ((Rect.unit (s := S512x4096) ![0, c] S512x512.size inb).emb (ix2 a l) 1).val = 512 * k + l.val := by
    rw [Rect.emb_apply]; show c + 1 * l.val = _; omega
  have hl := l.isLt
  have hw : (ix2 a l : S512x512.Idx) = ix2 ((Rect.unit (s := S512x4096) ![0, c] S512x512.size inb).emb (ix2 a l) 0)
      (⟨((Rect.unit (s := S512x4096) ![0, c] S512x512.size inb).emb (ix2 a l) 1).val % 512, Nat.mod_lt _ (by decide)⟩ : Fin 512) :=
    funext fun i => match i with
      | ⟨0, _⟩ => Fin.ext e0.symm
      | ⟨1, _⟩ => Fin.ext (show l.val = _ % 512 by rw [e1]; omega)
  have hcol : k = ((Rect.unit (s := S512x4096) ![0, c] S512x512.size inb).emb (ix2 a l) 1).val / 512 := by rw [e1]; omega
  have key : ∀ (e s s' : BitVec 8) (p p' : Nat), s = s' → p = p' →
      (((code e s p : ℤ) : ℝ) : EReal) = (((code e s' p' : ℤ) : ℝ) : EReal) := by rintro e s _ p _ rfl rfl; rfl
  exact key _ _ _ _ _ (congrArg X3 hw) hcol

/-- The scratch after the eight stores, at any index. -/
theorem weights_apply (y : S512x4096.Idx) : weights X2 X3 y = weightAt X2 X3 y := by
  unfold weights
  refine View.canon_apply_of_pieces (weightAt X2 X3) _ ?_ y ?_
  · intro p hp
    simp only [stores, List.mem_cons, List.mem_nil_iff, or_false] at hp
    rcases hp with rfl | rfl | rfl | rfl | rfl | rfl | rfl | rfl <;> intro x
    · exact (congrFun (pay14_eq _ _) x).trans (store_eq X2 X3 7 _ (by decide) rfl _ _ (shr_bit X3) x)
    · exact (congrFun (pay13_eq _ _) x).trans (store_eq X2 X3 6 _ (by decide) rfl _ _ (shl_bit X3 _ 6 rfl) x)
    · exact (congrFun (pay10_eq _ _) x).trans (store_eq X2 X3 5 _ (by decide) rfl _ _ (shl_bit X3 _ 5 rfl) x)
    · exact (congrFun (pay9_eq _ _) x).trans (store_eq X2 X3 4 _ (by decide) rfl _ _ (shl_bit X3 _ 4 rfl) x)
    · exact (congrFun (pay7_eq _ _) x).trans (store_eq X2 X3 3 _ (by decide) rfl _ _ (shl_bit X3 _ 3 rfl) x)
    · exact (congrFun (pay6_eq _ _) x).trans (store_eq X2 X3 2 _ (by decide) rfl _ _ (shl_bit X3 _ 2 rfl) x)
    · exact (congrFun (pay5_eq _ _) x).trans (store_eq X2 X3 1 _ (by decide) rfl _ _ (shl_bit X3 _ 1 rfl) x)
    · exact (congrFun (pay3_eq _ _) x).trans (store_eq X2 X3 0 _ (by decide) rfl _ _ (shl_bit X3 _ 0 rfl) x)
  · have h0 : (y 0).val < 512 := (y 0).isLt
    have h1 : (y 1).val < 4096 := (y 1).isLt
    have hm : ∀ (c : Nat) (inb : ∀ a, (![0, c] : Fin 2 → Nat) a + S512x512.size a ≤ S512x4096.size a), c ≤ (y 1).val →
        (y 1).val < c + 512 → y ∈ (Rect.unit (s := S512x4096) ![0, c] S512x512.size inb).set := fun c inb h h' =>
      Rect.mem_set_unit.mpr fun a => match a with
        | ⟨0, _⟩ => ⟨Nat.zero_le _, by show (y 0).val < 0 + 512; omega⟩
        | ⟨1, _⟩ => ⟨h, h'⟩
    have hk : (3584 ≤ (y 1).val ∧ (y 1).val < 4096) ∨ (3072 ≤ (y 1).val ∧ (y 1).val < 3584) ∨ (2560 ≤ (y 1).val ∧ (y 1).val < 3072)
        ∨ (2048 ≤ (y 1).val ∧ (y 1).val < 2560) ∨ (1536 ≤ (y 1).val ∧ (y 1).val < 2048) ∨ (1024 ≤ (y 1).val ∧ (y 1).val < 1536)
        ∨ (512 ≤ (y 1).val ∧ (y 1).val < 1024) ∨ (0 ≤ (y 1).val ∧ (y 1).val < 512) := by omega
    unfold stores
    rcases hk with hk | hk | hk | hk | hk | hk | hk | hk
    · exact ⟨_, .head _, hm _ inb_S512x4096_S512x512_0_3584 hk.1 hk.2⟩
    · exact ⟨_, .tail _ (.head _), hm _ inb_S512x4096_S512x512_0_3072 hk.1 hk.2⟩
    · exact ⟨_, .tail _ (.tail _ (.head _)), hm _ inb_S512x4096_S512x512_0_2560 hk.1 hk.2⟩
    · exact ⟨_, .tail _ (.tail _ (.tail _ (.head _))), hm _ inb_S512x4096_S512x512_0_2048 hk.1 hk.2⟩
    · exact ⟨_, .tail _ (.tail _ (.tail _ (.tail _ (.head _)))), hm _ inb_S512x4096_S512x512_0_1536 hk.1 hk.2⟩
    · exact ⟨_, .tail _ (.tail _ (.tail _ (.tail _ (.tail _ (.head _))))), hm _ inb_S512x4096_S512x512_0_1024 hk.1 hk.2⟩
    · exact ⟨_, .tail _ (.tail _ (.tail _ (.tail _ (.tail _ (.tail _ (.head _)))))), hm _ inb_S512x4096_S512x512_0_512 hk.1 hk.2⟩
    · exact ⟨_, .tail _ (.tail _ (.tail _ (.tail _ (.tail _ (.tail _ (.tail _ (.head _))))))), hm _ inb_S512x4096_S512x512_0_0 hk.1 hk.2⟩

variable (X1 : S768x4096.Idx → Elt Ideal .bf16) (X4 X5 : S1x512.Idx → Elt Ideal .f32) (X6 : S768x1.Idx → Elt Ideal .f32)

/-- The constant one half, as the program spells it. -/
def half : Ideal .f32 := Scalar.ofBits .f32 0x3F000000#32

/-- A score from its parts: what is added per column and per row, the column's scale, the row of `x`, the row of weights. -/
def score (a g r : EReal) (x w : Fin 4096 → EReal) : EReal :=
  (a + g) + ((half : EReal) * r) * (Ideal.ofBits .f32 0#32 + ∑ j, x j * w j)

/-- Scores of equal parts are equal. -/
theorem score_congr {a a' g g' r r' : EReal} {x x' w w' : Fin 4096 → EReal} (ha : a = a') (hg : g = g') (hr : r = r')
    (hx : ∀ j, x j = x' j) (hw : ∀ j, w j = w' j) : score a g r x w = score a' g' r' x' w' := by
  obtain rfl := funext hx; obtain rfl := funext hw; subst ha hg hr; rfl

/-- Weights of equal bytes are equal. -/
theorem weight_congr {e e' s s' : BitVec 8} (he : e = e') (hs : s = s') (p : Nat) :
    (((code e s p : ℤ) : ℝ) : EReal) = (((code e' s' p : ℤ) : ℝ) : EReal) := by subst he hs; rfl

/-- The block of scores at row `r`, column `n`. -/
theorem scores_apply (r : Fin 768) (n : Fin 512) :
    scores X1 X2 X3 X4 X5 X6 (ix2 r n)
      = score (X4 (ix2 0 n)) (X6 (ix2 r 0)) (X5 (ix2 0 n)) (fun j => X1 (ix2 r j)) (fun j => weightAt X2 X3 (ix2 n j)) := by
  rw [show weightAt X2 X3 = weights X2 X3 from funext fun y => (weights_apply X2 X3 y).symm]
  unfold scores k0_pay2
  simp only [shapeCast_self]
  unfold score
  refine congrArg₂ (· + ·) (congrArg₂ (· + ·) ?_ ?_) (congrArg₂ (· * ·) ?_ ?_)
  · exact broadcastTo_apply _ _ _ _ fun a => by fin_cases a <;> rfl
  · exact broadcastTo_apply _ _ _ _ fun a => by fin_cases a <;> rfl
  · exact broadcastTo_apply (mulf (broadcast S1x512 (half : Ideal .f32)) X5) _ _ (ix2 0 n) fun a => by fin_cases a <;> rfl
  · exact Ideal.matmul_transposedRhs_apply _ _ _ _ _ _

end Cert.KernelIdeal.Weights
-- ==== Proof.Blocks.lean ====
module

public import proofs.«01_k».proof.Proof.Region
public import proofs.«01_k».proof.Proof.Weights

@[expose] public section

set_option maxRecDepth 16384

noncomputable section

/-!
  What the result array holds, exactly: one function of the arrays the region reads, and every block the body leaves is
  that function's block on the part inside the array, whatever fills the inputs' buffers past their arrays' ends.
-/

namespace Cert.KernelIdeal.Blocks

open Cert.KernelIdeal Cert.KernelIdeal.Gen Cert.KernelIdeal.Body Cert.KernelIdeal.Region Cert.KernelIdeal.Weights Cert.Bytes
open Idealize.ShloMosaic Idealize.ShloMosaic.TcCoe
open Idealize.ShloMosaic.ValueIdx (ix2)
open Idealize.SL.Sem
open Idealize.ShloMosaic.Pipeline (Dat Cfg Window)

variable (m : (ℓ : Loc nD τ sig) → Buf (Elt Ideal) ℓ) (c : Dev nD) (t : Fin cfg0.N)

/-! ### Where the blocks lie: point `t` takes rows (or columns) `512 t` up, cut at 80000 -/

/-- `x` is one block. -/
theorem at_0 : ∀ t : Fin cfg0.N, win0_0.index t 0 = 0 ∧ win0_0.index t 1 = 0 := by decide +kernel
/-- `g` is one block. -/
theorem at_5 : ∀ t : Fin cfg0.N, win0_5.index t 0 = 0 ∧ win0_5.index t 1 = 0 := by decide +kernel
/-- The blocks of `ex_bytes`. -/
theorem at_1 : ∀ t : Fin cfg0.N, win0_1.index t 0 = t.val ∧ win0_1.index t 1 = 0
    ∧ win0_1.xsize (grid0.coords t) 0 = min 512 (80000 - 512 * t.val) ∧ win0_1.xsize (grid0.coords t) 1 = 4096 := by decide +kernel
/-- The blocks of `sign_bits`. -/
theorem at_2 : ∀ t : Fin cfg0.N, win0_2.index t 0 = t.val ∧ win0_2.index t 1 = 0
    ∧ win0_2.xsize (grid0.coords t) 0 = min 512 (80000 - 512 * t.val) ∧ win0_2.xsize (grid0.coords t) 1 = 512 := by decide +kernel
/-- The blocks of `f_add`. -/
theorem at_3 : ∀ t : Fin cfg0.N, win0_3.index t 0 = 0 ∧ win0_3.index t 1 = t.val
    ∧ win0_3.xsize (grid0.coords t) 0 = 1 ∧ win0_3.xsize (grid0.coords t) 1 = min 512 (80000 - 512 * t.val) := by decide +kernel
/-- The blocks of `f_rescale`. -/
theorem at_4 : ∀ t : Fin cfg0.N, win0_4.index t 0 = 0 ∧ win0_4.index t 1 = t.val
    ∧ win0_4.xsize (grid0.coords t) 0 = 1 ∧ win0_4.xsize (grid0.coords t) 1 = min 512 (80000 - 512 * t.val) := by decide +kernel
/-- The blocks of the result. -/
theorem at_6 : ∀ t : Fin cfg0.N, win0_6.index t 0 = 0 ∧ win0_6.index t 1 = t.val
    ∧ win0_6.xsize (grid0.coords t) 0 = 768 ∧ win0_6.xsize (grid0.coords t) 1 = min 512 (80000 - 512 * t.val) := by decide +kernel

/-- A buffer filled out past the array's end, at an index inside: the block there. -/
theorem fill_inside {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-! ### The input buffers at an index inside the array -/

/-- The buffer of `x` is the array of flattened queries. -/
theorem xB_apply (r : Fin 768) (j : Fin 4096) : xB m c t (ix2 r j) = V m c main_v0 (ix2 r j) := by
  obtain ⟨h0, h1⟩ := at_0 t
  refine congrArg (V m c main_v0) (funext fun a => Fin.ext ?_)
  match a with
  | ⟨0, _⟩ => exact (win0_0.rect_emb_val_of_index_zero t 0 h0 _)
  | ⟨1, _⟩ => exact (win0_0.rect_emb_val_of_index_zero t 1 h1 _)

/-- The buffer of `g` is the column of the queries' offsets. -/
theorem gB_apply (r : Fin 768) (j : Fin 1) : gB m c t (ix2 r j) = V m c main_v3 (ix2 r j) := by
  obtain ⟨h0, h1⟩ := at_5 t
  refine congrArg (V m c main_v3) (funext fun a => Fin.ext ?_)
  match a with
  | ⟨0, _⟩ => exact (win0_5.rect_emb_val_of_index_zero t 0 h0 _)
  | ⟨1, _⟩ => exact (win0_5.rect_emb_val_of_index_zero t 1 h1 _)

/-- Row `n` of the buffer of `ex_bytes` at point `t` is row `512 t + n` of the array, if there is one. -/
theorem eB_apply (d) (n : Fin 512) (j : Fin 4096) (hn : 512 * t.val + n.val < 80000) :
    eB m c t d (ix2 n j) = V m c main_arg2 (ix2 (⟨512 * t.val + n.val, hn⟩ : Fin 80000) j) := by
  obtain ⟨h0, h1, h2, h3⟩ := at_1 t
  have hn' := n.isLt
  unfold eB
  rw [fill_inside win0_1 _ _ _ _ (fun a => match a with
    | ⟨0, _⟩ => by show n.val < win0_1.xsize (grid0.coords t) 0; omega
    | ⟨1, _⟩ => by show j.val < win0_1.xsize (grid0.coords t) 1; have := j.isLt; omega)]
  refine congrArg (V m c main_arg2) (funext fun a => Fin.ext ?_)
  match a with
  | ⟨0, _⟩ => exact (win0_1.rect_emb_val t _ 0).trans (by rw [h0]; show t.val * 512 + n.val = _; show _ = 512 * t.val + n.val; omega)
  | ⟨1, _⟩ => exact (win0_1.rect_emb_val_of_index_zero t 1 h1 _)

/-- Row `n` of the buffer of `sign_bits`, likewise. -/
theorem sB_apply (d) (n : Fin 512) (j : Fin 512) (hn : 512 * t.val + n.val < 80000) :
    sB m c t d (ix2 n j) = V m c main_arg1 (ix2 (⟨512 * t.val + n.val, hn⟩ : Fin 80000) j) := by
  obtain ⟨h0, h1, h2, h3⟩ := at_2 t
  have hn' := n.isLt
  unfold sB
  rw [fill_inside win0_2 _ _ _ _ (fun a => match a with
    | ⟨0, _⟩ => by show n.val < win0_2.xsize (grid0.coords t) 0; omega
    | ⟨1, _⟩ => by show j.val < win0_2.xsize (grid0.coords t) 1; have := j.isLt; omega)]
  refine congrArg (V m c main_arg1) (funext fun a => Fin.ext ?_)
  match a with
  | ⟨0, _⟩ => exact (win0_2.rect_emb_val t _ 0).trans (by rw [h0]; show t.val * 512 + n.val = _; show _ = 512 * t.val + n.val; omega)
  | ⟨1, _⟩ => exact (win0_2.rect_emb_val_of_index_zero t 1 h1 _)

/-- Column `n` of the buffer of `f_add`, likewise. -/
theorem aB_apply (d) (z : Fin 1) (n : Fin 512) (hn : 512 * t.val + n.val < 80000) :
    aB m c t d (ix2 z n) = V m c main_v1 (ix2 z (⟨512 * t.val + n.val, hn⟩ : Fin 80000)) := by
  obtain ⟨h0, h1, h2, h3⟩ := at_3 t
  have hn' := n.isLt
  unfold aB
  rw [fill_inside win0_3 _ _ _ _ (fun a => match a with
    | ⟨0, _⟩ => by show z.val < win0_3.xsize (grid0.coords t) 0; have := z.isLt; omega
    | ⟨1, _⟩ => by show n.val < win0_3.xsize (grid0.coords t) 1; omega)]
  refine congrArg (V m c main_v1) (funext fun a => Fin.ext ?_)
  match a with
  | ⟨0, _⟩ => exact (win0_3.rect_emb_val_of_index_zero t 0 h0 _)
  | ⟨1, _⟩ => exact (win0_3.rect_emb_val t _ 1).trans (by rw [h1]; show t.val * 512 + n.val = _; show _ = 512 * t.val + n.val; omega)

/-- Column `n` of the buffer of `f_rescale`, likewise. -/
theorem rB_apply (d) (z : Fin 1) (n : Fin 512) (hn : 512 * t.val + n.val < 80000) :
    rB m c t d (ix2 z n) = V m c main_v2 (ix2 z (⟨512 * t.val + n.val, hn⟩ : Fin 80000)) := by
  obtain ⟨h0, h1, h2, h3⟩ := at_4 t
  have hn' := n.isLt
  unfold rB
  rw [fill_inside win0_4 _ _ _ _ (fun a => match a with
    | ⟨0, _⟩ => by show z.val < win0_4.xsize (grid0.coords t) 0; have := z.isLt; omega
    | ⟨1, _⟩ => by show n.val < win0_4.xsize (grid0.coords t) 1; omega)]
  refine congrArg (V m c main_v2) (funext fun a => Fin.ext ?_)
  match a with
  | ⟨0, _⟩ => exact (win0_4.rect_emb_val_of_index_zero t 0 h0 _)
  | ⟨1, _⟩ => exact (win0_4.rect_emb_val t _ 1).trans (by rw [h1]; show t.val * 512 + n.val = _; show _ = 512 * t.val + n.val; omega)

/-! ### The array -/

/-- The weight of vector `n` at dimension `j`, from the arrays of exponent bytes and sign bytes. -/
def weight (E : S80000x4096.Idx → BitVec 8) (S : S80000x512.Idx → BitVec 8) (n : Fin 80000) (j : Fin 4096) : EReal :=
  (((code (E (ix2 n j)) (S (ix2 n (⟨j.val % 512, Nat.mod_lt _ (by decide)⟩ : Fin 512))) (j.val / 512) : ℤ) : ℝ) : EReal)

/-- The score of query `r` against vector `n`, from the arrays the region reads. -/
def entry (r : Fin 768) (n : Fin 80000) : EReal :=
  score (V m c main_v1 (ix2 0 n)) (V m c main_v3 (ix2 r 0)) (V m c main_v2 (ix2 0 n)) (fun j => V m c main_v0 (ix2 r j))
    (weight (V m c main_arg2) (V m c main_arg1) n)

/-- The result array: every query against every vector. -/
def table : Buf (Elt Ideal) ((c : Thread nD τ).loc main_v4) := fun i : S768x80000.Idx => entry m c (i 0) (i 1)

/-- The block of scores at an index inside the array is the table's entry there, whatever fills the buffers. -/
theorem scores_entry (d1 d2 d3 d4) (r : Fin 768) (n : Fin 512) (hn : 512 * t.val + n.val < 80000) :
    scores (xB m c t) (eB m c t d1) (sB m c t d2) (aB m c t d3) (rB m c t d4) (gB m c t) (ix2 r n)
      = entry m c r ⟨512 * t.val + n.val, hn⟩ :=
  (scores_apply _ _ _ _ _ _ r n).trans (score_congr (aB_apply m c t d3 0 n hn) (gB_apply m c t r 0) (rB_apply m c t d4 0 n hn)
    (fun j => xB_apply m c t r j) (fun j => weight_congr (eB_apply m c t d1 n j hn) (sB_apply m c t d2 n _ hn) _))

/-- So the part of the block inside the array is the table's block. -/
theorem cut_scores (d1 d2 d3 d4) :
    win0_6.cut (grid0.coords t) (scores (xB m c t) (eB m c t d1) (sB m c t d2) (aB m c t d3) (rB m c t d4) (gB m c t))
      = (win0_6.blk t).view.read (Elt Ideal) (table m c) := by
  obtain ⟨h0, h1, h2, h3⟩ := at_6 t
  funext y
  have ht : t.val < 157 := t.isLt
  have hy0 : (y 0).val < win0_6.xsize (grid0.coords t) 0 := (y 0).isLt
  have hy1 : (y 1).val < win0_6.xsize (grid0.coords t) 1 := (y 1).isLt
  rw [h2] at hy0; rw [h3] at hy1
  have hn : 512 * t.val + (y 1).val < 80000 := by omega
  have e : win0_6.xinj (grid0.coords t) y = ix2 (⟨(y 0).val, hy0⟩ : Fin 768) (⟨(y 1).val, by omega⟩ : Fin 512) :=
    funext fun a => by match a with | ⟨0, _⟩ => rfl | ⟨1, _⟩ => rfl
  show scores _ _ _ _ _ _ (win0_6.xinj (grid0.coords t) y) = _
  rw [e, scores_entry m c t d1 d2 d3 d4 _ _ hn]
  show _ = entry m c ((win0_6.rect t).emb y 0) ((win0_6.rect t).emb y 1)
  congr 1
  · exact Fin.ext (win0_6.rect_emb_val_of_index_zero t 0 h0 y).symm
  · refine Fin.ext (((win0_6.rect_emb_val t y 1).trans ?_).symm)
    rw [h1]; show t.val * 512 + (y 1).val = 512 * t.val + (y 1).val; omega

/-- Every index of the result array lies in some point's block. -/
theorem covered (i : S768x80000.Idx) : ∃ t : Fin cfg0.N, (cfg0.win 6).flush t = true ∧ i ∈ ((cfg0.win 6).blk t).view.set := by
  have hi0 : (i 0).val < 768 := (i 0).isLt
  have hi1 : (i 1).val < 80000 := (i 1).isLt
  let t : Fin cfg0.N := ⟨(i 1).val / 512, by show _ < 157; omega⟩
  have htv : t.val = (i 1).val / 512 := rfl
  obtain ⟨h0, h1, h2, h3⟩ := at_6 t
  refine ⟨t, flush0_6 t, ?_⟩
  show i ∈ ((View.whole main_v4).slice (win0_6.rect t)).set
  rw [View.set_slice_whole, Rect.mem_set_unit]
  intro a
  match a with
  | ⟨0, _⟩ =>
    change win0_6.index t 0 * 768 ≤ (i 0).val ∧ (i 0).val < win0_6.index t 0 * 768 + win0_6.xsize (grid0.coords t) 0
    rw [h0, h2]; omega
  | ⟨1, _⟩ =>
    change win0_6.index t 1 * 512 ≤ (i 1).val ∧ (i 1).val < win0_6.index t 1 * 512 + win0_6.xsize (grid0.coords t) 1
    rw [h1, h3, htv]; omega

/-- The body's result at each point: the block of scores, the buffers filled out by zeros. -/
def outs (c : Dev nD) (t : Fin cfg0.N) : S768x512.Idx → Elt Ideal .f32 :=
  scores (xB m c t) (eB m c t z8) (sB m c t z8) (aB m c t z32) (rB m c t z32) (gB m c t)

/-- After the region the result array is the table. -/
theorem final : (dats m (outs m) 0 c).arrAt 6 cfg0.N = table m c :=
  (dats m (outs m) 0 c).arrAt_eq_of_cover 6 (table m c) (fun t _ => cut_scores m c t z8 z8 z32 z32) covered

end Cert.KernelIdeal.Blocks
-- ==== Proof.ExactRun.lean ====
module

public import proofs.«01_k».proof.Proof.Blocks
public import proofs.«01_k».proof.Proof.Frames

@[expose] public section

set_option maxRecDepth 16384

noncomputable section

/-!
  The exact run: every run of the idealized kernel ends with its result the reshaped table of scores and its arguments as
  launched; and the table's entries in terms of the arguments.
-/

namespace Cert.KernelIdeal.ExactRun

open Cert.KernelIdeal Cert.KernelIdeal.Gen Cert.KernelIdeal.Body Cert.KernelIdeal.Region Cert.KernelIdeal.Blocks
open Idealize.ShloMosaic Idealize.ShloMosaic.TcCoe Idealize.ShloMosaic.Tactic
open Idealize.SL Idealize.SL.Sem
open Idealize.ShloMosaic.Pipeline (Dat Cfg Window BodyObligationLoose)

variable (m : (ℓ : Loc nD τ sig) → Buf (Elt Ideal) ℓ) (ρ : Dev nD → PrngReg)

/-- No window's buffer is left unsaid. -/
theorem fgt_false : fgt false = fun _ => false := funext fun w => by fin_cases w <;> rfl

/-- The body's obligation with the result's buffer at the block of scores. -/
theorem obligation (c : Dev nD) : BodyObligationLoose (dats m (outs m) 0 c) (defs₀ (F := Ideal)) Variants.none () Set.univ :=
  fgt_false ▸ body_obligation m (outs m) false (fun c t d1 d2 d3 d4 => Or.inr
    ((cut_scores m c t d1 d2 d3 d4).trans (cut_scores m c t z8 z8 z32 z32).symm)) c

/-- The result as the run leaves it: the table reshaped. -/
def result (c : Dev nD) : Buf (Elt Ideal) ((c.tc : Thread nD τ).loc main_v5) :=
  shapeCast S6x128x80000 (table m c) shapeCasts_S768x80000_S6x128x80000

/-- The line after the region reshapes the result array. -/
theorem tail_result (c : Dev nD) :
    Pipeline.afterTail₀ cfgs (dats m (outs m)) 0 (V0 m) [hostOps1] c main_v5 = result m c := by
  unfold Pipeline.afterTail₀
  simp only [List.flatten_cons, List.flatten_nil, List.append_nil]
  after_results
  have h := Pipeline.withArrays_arr spec0 (by decide) c (V0 m c) (fun w => (dats m (outs m) 0 c).arrAt w cfg0.N) 6
  unfold result
  rw [← final m c]
  exact congrArg (fun X => shapeCast S6x128x80000 X shapeCasts_S768x80000_S6x128x80000) h

set_option backward.isDefEq.respectTransparency.types false in
/-- Every run ends with every array and every other buffer at the contents the pipeline's data name. -/
theorem run_post : θ_run defs (onTc (τ := τ) (main (F := Ideal))) (s₀ m ρ)
    (Pipeline.FramePost cfgs (dats m (outs m)) 0 (Pipeline.afterTail₀ cfgs (dats m (outs m)) 0 (V0 m) [hostOps1])) :=
  Pipeline.θ_run_frame_around cfgs (dats m (outs m)) 0 launch0 defs₀ Variants.none m ρ main (obligation m)
    (fun c => (dats m _ 0 c).share_full fun _ => rfl) (fun _ _ => rfl) (V0 m) [hostOps1] sfx_sub sfx_fresh sfx_keeps
    (hmain m Variants.none) (fun _ _ => rfl) (fun _ _ => rfl)

/-- Every run ends with the result the reshaped table and the arguments as launched. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v5 (Pipeline.mem_restRefs_of main_v5 (by decide) (by decide))).trans (tail_result m c),
      ((h c).2 main_arg0 (Pipeline.mem_restRefs_of main_arg0 (by decide) (by decide))).trans (W_main_arg0 m _ c),
      ((h c).1 2).trans (((dats m (outs m) 0 c).arrAt_in 2 rfl _).trans (V_main_arg1 m c)),
      ((h c).1 1).trans (((dats m (outs m) 0 c).arrAt_in 1 rfl _).trans (V_main_arg2 m c)),
      ((h c).2 main_arg3 (Pipeline.mem_restRefs_of main_arg3 (by decide) (by decide))).trans (W_main_arg3 m _ c),
      ((h c).2 main_arg4 (Pipeline.mem_restRefs_of main_arg4 (by decide) (by decide))).trans (W_main_arg4 m _ c),
      ((h c).2 main_arg5 (Pipeline.mem_restRefs_of main_arg5 (by decide) (by decide))).trans (W_main_arg5 m _ c)⟩) (run_post m ρ)

/-! ### The arrays the host lines before the region make -/

/-- `x`, flattened to one row per query. -/
theorem V_main_v0 (c : Dev nD) : V m c main_v0 = shapeCast S768x4096 (m ((c : Thread nD τ).loc main_arg0)) shapeCasts_S6x128x4096_S768x4096 := by
  unfold V V0; simp only [List.flatten_cons, List.flatten_nil, List.append_nil]; after_results; rfl
/-- `f_add` as one row. -/
theorem V_main_v1 (c : Dev nD) : V m c main_v1 = shapeCast S1x80000 (m ((c : Thread nD τ).loc main_arg3)) shapeCasts_S80000_S1x80000 := by
  unfold V V0; simp only [List.flatten_cons, List.flatten_nil, List.append_nil]; after_results; rfl
/-- `f_rescale` as one row. -/
theorem V_main_v2 (c : Dev nD) : V m c main_v2 = shapeCast S1x80000 (m ((c : Thread nD τ).loc main_arg4)) shapeCasts_S80000_S1x80000 := by
  unfold V V0; simp only [List.flatten_cons, List.flatten_nil, List.append_nil]; after_results; rfl
/-- `g_add` as one column. -/
theorem V_main_v3 (c : Dev nD) : V m c main_v3 = shapeCast S768x1 (m ((c : Thread nD τ).loc main_arg5)) shapeCasts_S6x128_S768x1 := by
  unfold V V0; simp only [List.flatten_cons, List.flatten_nil, List.append_nil]; after_results; rfl

end Cert.KernelIdeal.ExactRun
-- ==== Proof.RefValue.lean ====
module

public import proofs.«01_k».proof.Proof.Bytes
public import proofs.«01_k».proof.Proof.Gen.ReferenceIdeal
public import Idealize.ShloMosaic.Lib.MatmulPlain
public import Idealize.ShloMosaic.Lib.Pipeline.Value

@[expose] public section

set_option maxRecDepth 16384

noncomputable section

/-!
  What the reference computes, at one query and one vector: the vector's offset plus the query's, plus half the vector's
  scale times the sum over lanes and planes of the query's entries times the weights.
-/

namespace Cert.ReferenceIdeal.RefValue

open Cert.ReferenceIdeal Cert.ReferenceIdeal.Gen Idealize.ShloMosaic Cert.Bytes
open Idealize.ShloMosaic.ValueIdx (ix1 ix2 ix3 ix4 contrEquiv2 contrEquiv2_symm_val0 contrEquiv2_symm_val1)
open scoped BigOperators

variable (X : FVec Ideal S6x128x4096 .bf16) (S : IVec S80000x512 8) (E : IVec S80000x4096 8)
variable (A R : FVec Ideal S80000 .f32) (G : FVec Ideal S6x128 .f32)

/-- Dimension `512 k + l`: lane `l` of plane `k`. -/
def dim (k : Fin 8) (l : Fin 512) : Fin 4096 := ⟨512 * k.val + l.val, by have := k.isLt; have := l.isLt; omega⟩

/-- The sign bits: bit `k` of the sign byte, as a word. -/
def bits : IVec S80000x8x512 32 :=
  andi (Host.shrsi (broadcastInDim S80000x8x512 ![0, 1, 2] bcast_S80000x1x512_S80000x8x512_0_1_2 (broadcastInDim S80000x1x512 ![0, 2] bcast_S80000x512_S80000x1x512_0_2 (extui 32 S natLt_8_32))) (broadcastInDim S80000x8x512 ![0, 1, 2] bcast_S1x8x1_S80000x8x512_0_1_2 (broadcastInDim S1x8x1 ![1] bcast_S8_S1x8x1_1 (iotaInDim S8 32 0)))) (broadcastInDim S80000x8x512 ![] bcast_S_S80000x8x512 (constantI S_ 32 1#32))

/-- The exponent bits: the low five of the byte, as a word. -/
def exps : IVec S80000x8x512 32 :=
  andi (shapeCast _ (extui 32 E natLt_8_32) shapeCasts_S80000x4096_S80000x8x512) (broadcastInDim S80000x8x512 ![] bcast_S_S80000x8x512 (constantI S_ 32 31#32))

/-- The weights as words. -/
def codes : IVec S80000x8x512 32 :=
  subi (muli (broadcastInDim S80000x8x512 ![] bcast_S_S80000x8x512 (constantI S_ 32 2#32)) (addi (Host.shli (bits S) (broadcastInDim S80000x8x512 ![] bcast_S_S80000x8x512 (constantI S_ 32 5#32))) (exps E))) (broadcastInDim S80000x8x512 ![] bcast_S_S80000x8x512 (constantI S_ 32 63#32))

/-- The reference's sums over the weights. -/
def sums : FVec Ideal S6x128x80000 .f32 :=
  Host.dotGeneral dot_S6x128x8x512_S80000x8x512_S6x128x80000_32_21_01_0_n_n none (shapeCast _ X shapeCasts_S6x128x4096_S6x128x8x512) (sitofp .bf16 (codes S E))

/-- The reference's result as its operations compose it. -/
def value : FVec Ideal S6x128x80000 .f32 :=
  addf (addf (broadcastInDim S6x128x80000 ![0, 1, 2] bcast_S1x1x80000_S6x128x80000_0_1_2 (broadcastInDim S1x1x80000 ![2] bcast_S80000_S1x1x80000_2 A)) (broadcastInDim S6x128x80000 ![0, 1, 2] bcast_S6x128x1_S6x128x80000_0_1_2 (broadcastInDim S6x128x1 ![0, 1] bcast_S6x128_S6x128x1_0_1 G))) (mulf (broadcastInDim S6x128x80000 ![0, 1, 2] bcast_S1x1x80000_S6x128x80000_0_1_2 (broadcastInDim S1x1x80000 ![2] bcast_S80000_S1x1x80000_2 (mulf (broadcastInDim S80000 ![] bcast_S_S80000 (constant S_ .f32 0x3F000000#32)) R))) (sums X S E))

/-! ### Where the broadcasts and reshapes read -/

section
variable {α : Type}

/-- A vector spread over the results reads the result's last coordinate. -/
theorem vec_apply (x : S80000.Idx → α) (b : Fin 6) (t : Fin 128) (n : Fin 80000) :
    broadcastInDim S6x128x80000 ![0, 1, 2] bcast_S1x1x80000_S6x128x80000_0_1_2 (broadcastInDim S1x1x80000 ![2] bcast_S80000_S1x1x80000_2 x) (ix3 b t n) = x (ix1 n) :=
  (broadcastInDim_apply _ _ _ _ (ix3 (0 : Fin 1) (0 : Fin 1) n) fun a => by fin_cases a <;> rfl).trans
    (broadcastInDim_apply _ _ _ _ (ix1 n) fun a => by fin_cases a <;> rfl)

/-- A number per query spread over the results reads the result's first two coordinates. -/
theorem query_apply (x : S6x128.Idx → α) (b : Fin 6) (t : Fin 128) (n : Fin 80000) :
    broadcastInDim S6x128x80000 ![0, 1, 2] bcast_S6x128x1_S6x128x80000_0_1_2 (broadcastInDim S6x128x1 ![0, 1] bcast_S6x128_S6x128x1_0_1 x) (ix3 b t n) = x (ix2 b t) :=
  (broadcastInDim_apply _ _ _ _ (ix3 b t (0 : Fin 1)) fun a => by fin_cases a <;> rfl).trans
    (broadcastInDim_apply _ _ _ _ (ix2 b t) fun a => by fin_cases a <;> rfl)

/-- The sign bytes spread over the planes read the same byte in each. -/
theorem sign_apply (x : S80000x512.Idx → α) (n : Fin 80000) (k : Fin 8) (l : Fin 512) :
    broadcastInDim S80000x8x512 ![0, 1, 2] bcast_S80000x1x512_S80000x8x512_0_1_2 (broadcastInDim S80000x1x512 ![0, 2] bcast_S80000x512_S80000x1x512_0_2 x) (ix3 n k l) = x (ix2 n l) :=
  (broadcastInDim_apply _ _ _ _ (ix3 n (0 : Fin 1) l) fun a => by fin_cases a <;> rfl).trans
    (broadcastInDim_apply _ _ _ _ (ix2 n l) fun a => by fin_cases a <;> rfl)

/-- A number per plane spread over vectors and lanes reads the plane. -/
theorem plane_apply (x : S8.Idx → α) (n : Fin 80000) (k : Fin 8) (l : Fin 512) :
    broadcastInDim S80000x8x512 ![0, 1, 2] bcast_S1x8x1_S80000x8x512_0_1_2 (broadcastInDim S1x8x1 ![1] bcast_S8_S1x8x1_1 x) (ix3 n k l) = x (ix1 k) :=
  (broadcastInDim_apply _ _ _ _ (ix3 (0 : Fin 1) k (0 : Fin 1)) fun a => by fin_cases a <;> rfl).trans
    (broadcastInDim_apply _ _ _ _ (ix1 k) fun a => by fin_cases a <;> rfl)

/-- The exponent bytes cut into planes. -/
theorem exp_apply (x : S80000x4096.Idx → α) (n : Fin 80000) (k : Fin 8) (l : Fin 512) :
    shapeCast S80000x8x512 x shapeCasts_S80000x4096_S80000x8x512 (ix3 n k l) = x (ix2 n (dim k l)) :=
  shapeCast_apply x _ _ _ (by
    refine (Shape.rowMajor_val_two _).trans (Eq.trans ?_ (Shape.rowMajor_val_three _).symm)
    show n.val * 4096 + (512 * k.val + l.val) = (n.val * 8 + k.val) * 512 + l.val; omega)

/-- The queries cut into planes. -/
theorem cut_apply (x : S6x128x4096.Idx → α) (b : Fin 6) (t : Fin 128) (k : Fin 8) (l : Fin 512) :
    shapeCast S6x128x8x512 x shapeCasts_S6x128x4096_S6x128x8x512 (ix4 b t k l) = x (ix3 b t (dim k l)) :=
  shapeCast_apply x _ _ _ (by
    refine (Shape.rowMajor_val_three _).trans (Eq.trans ?_ (Shape.rowMajor_val_four _).symm)
    show (b.val * 128 + t.val) * 4096 + (512 * k.val + l.val) = ((b.val * 128 + t.val) * 8 + k.val) * 512 + l.val; omega)

end

/-! ### The weights -/

/-- One sign bit. -/
theorem bits_apply (n : Fin 80000) (k : Fin 8) (l : Fin 512) :
    bits S (ix3 n k l) = ((S (ix2 n l)).setWidth 32).sshiftRight' (BitVec.ofNat 32 k.val) &&& 1#32 := by
  unfold bits
  show IntOp.shrsi .host _ _ &&& 1#32 = _
  rw [sign_apply, plane_apply]
  show IntOp.shrsi .host ((S (ix2 n l)).setWidth 32) (BitVec.ofNat 32 k.val) &&& 1#32 = _
  have hk : (BitVec.ofNat 32 k.val).toNat < 32 := by
    have := k.isLt; rw [BitVec.toNat_ofNat]; omega
  unfold IntOp.shrsi
  rw [if_pos hk]

/-- One exponent. -/
theorem exps_apply (n : Fin 80000) (k : Fin 8) (l : Fin 512) :
    exps E (ix3 n k l) = (E (ix2 n (dim k l))).setWidth 32 &&& 31#32 := by
  unfold exps
  show shapeCast S80000x8x512 (extui 32 E natLt_8_32) shapeCasts_S80000x4096_S80000x8x512 (ix3 n k l) &&& 31#32 = _
  rw [exp_apply]; rfl

/-- One weight, as an integer. -/
theorem codes_apply (n : Fin 80000) (k : Fin 8) (l : Fin 512) :
    (codes S E (ix3 n k l)).toInt = code (E (ix2 n (dim k l))) (S (ix2 n l)) k.val := by
  have h : codes S E (ix3 n k l) = 2#32 * (((bits S (ix3 n k l)) <<< 5#32) + exps E (ix3 n k l)) - 63#32 := rfl
  rw [h, bits_apply, exps_apply, toInt_word _ _ _ k.isLt]

/-! ### The sums and the result -/

/-- One sum: over the lanes, and in each over the planes. -/
theorem sums_apply (b : Fin 6) (t : Fin 128) (n : Fin 80000) :
    sums X S E (ix3 b t n)
      = ∑ l : Fin 512, ∑ k : Fin 8, X (ix3 b t (dim k l)) * (((code (E (ix2 n (dim k l))) (S (ix2 n l)) k.val : ℤ) : ℝ) : EReal) := by
  let D := dot_S6x128x8x512_S80000x8x512_S6x128x80000_32_21_01_0_n_n
  have hr : D.contr.rank = 2 := rfl
  have c0 : D.contr.size ⟨0, by rw [hr]; omega⟩ = 512 := rfl
  have c1 : D.contr.size ⟨1, by rw [hr]; omega⟩ = 8 := rfl
  unfold sums
  refine (Ideal.dotGeneral_apply D none .single _ _ _).trans ?_
  rw [← Equiv.sum_comp (contrEquiv2 D 512 8 hr c0 c1).symm, Fintype.sum_prod_type]
  refine Finset.sum_congr rfl fun l _ => Finset.sum_congr rfl fun k _ => ?_
  have h0 := contrEquiv2_symm_val0 D 512 8 hr c0 c1 (l, k)
  have h1 := contrEquiv2_symm_val1 D 512 8 hr c0 c1 (l, k)
  have el : D.lhsIdx (ix3 b t n) ((contrEquiv2 D 512 8 hr c0 c1).symm (l, k)) = ix4 b t k l := by
    funext a; apply Fin.ext
    match a with
    | ⟨0, _⟩ => rfl
    | ⟨1, _⟩ => rfl
    | ⟨2, _⟩ => exact h1
    | ⟨3, _⟩ => exact h0
  have er : D.rhsIdx (ix3 b t n) ((contrEquiv2 D 512 8 hr c0 c1).symm (l, k)) = ix3 n k l := by
    funext a; apply Fin.ext
    match a with
    | ⟨0, _⟩ => rfl
    | ⟨1, _⟩ => exact h1
    | ⟨2, _⟩ => exact h0
  rw [el, er, cut_apply]
  show _ * ((((codes S E (ix3 n k l)).toInt : ℤ) : ℝ) : EReal) = _
  rw [codes_apply]

/-- One result. -/
theorem value_apply (b : Fin 6) (t : Fin 128) (n : Fin 80000) :
    value X S E A R G (ix3 b t n)
      = (A (ix1 n) + G (ix2 b t)) + (Scalar.ofBits (F := Ideal) .f32 0x3F000000#32 * R (ix1 n))
        * ∑ l : Fin 512, ∑ k : Fin 8, X (ix3 b t (dim k l)) * (((code (E (ix2 n (dim k l))) (S (ix2 n l)) k.val : ℤ) : ℝ) : EReal) := by
  rw [← sums_apply]
  unfold value
  exact congrArg₂ (fun p q : EReal => p + q)
    (congrArg₂ (fun p q : EReal => p + q) (vec_apply A b t n) (query_apply G b t n))
    (congrArg (fun p : EReal => p * sums X S E (ix3 b t n)) (vec_apply _ b t n))

end Cert.ReferenceIdeal.RefValue
-- ==== Proof.Equation.lean ====
module

public import proofs.«01_k».proof.Proof.ExactRun
public import proofs.«01_k».proof.Proof.RefValue

@[expose] public section

set_option maxRecDepth 16384

noncomputable section

/-!
  The equation: the kernel's result is the reference's, entry by entry. The kernel sums over the 4096 dimensions in one
  go, the reference over 512 lanes and in each over 8 planes; both sums have the same terms.
-/

namespace Cert.KernelIdeal.Equation

open Cert.KernelIdeal Cert.KernelIdeal.Gen Cert.KernelIdeal.Region Cert.KernelIdeal.Weights Cert.KernelIdeal.Blocks Cert.KernelIdeal.ExactRun
open Idealize.ShloMosaic Idealize.ShloMosaic.TcCoe Cert.Bytes
open Cert.ReferenceIdeal.RefValue (dim value value_apply)
open Idealize.ShloMosaic.ValueIdx (ix1 ix2 ix3)
open scoped BigOperators

/-- A sum over the dimensions is the sum over lanes of the sums over planes. -/
theorem sum_dims (f : Fin 4096 → EReal) : ∑ j, f j = ∑ l : Fin 512, ∑ k : Fin 8, f (dim k l) := by
  rw [← Equiv.sum_comp (finProdFinEquiv : Fin 8 × Fin 512 ≃ Fin 4096) f, Fintype.sum_prod_type, Finset.sum_comm]
  exact Finset.sum_congr rfl fun l _ => Finset.sum_congr rfl fun k _ => congrArg f (Fin.ext (Nat.add_comm _ _))

/-- The weight at lane `l` of plane `k`. -/
theorem weight_dim (E : S80000x4096.Idx → BitVec 8) (S : S80000x512.Idx → BitVec 8) (n : Fin 80000) (k : Fin 8) (l : Fin 512) :
    weight E S n (dim k l) = (((code (E (ix2 n (dim k l))) (S (ix2 n l)) k.val : ℤ) : ℝ) : EReal) := by
  have hl := l.isLt
  have e1 : (dim k l).val % 512 = l.val := by show (512 * k.val + l.val) % 512 = _; omega
  have e2 : (dim k l).val / 512 = k.val := by show (512 * k.val + l.val) / 512 = _; omega
  unfold weight
  rw [e2, show (⟨(dim k l).val % 512, Nat.mod_lt _ (by decide)⟩ : Fin 512) = l from Fin.ext e1]

variable (m : (ℓ : Loc nD τ sig) → Buf (Elt Ideal) ℓ) (c : Dev nD)

/-- The flat number of query `t` of batch `b`. -/
def row (b : Fin 6) (t : Fin 128) : Fin 768 := ⟨b.val * 128 + t.val, by have := b.isLt; have := t.isLt; omega⟩

/-- The flattened queries. -/
theorem query_at (b : Fin 6) (t : Fin 128) (j : Fin 4096) :
    V m c main_v0 (ix2 (row b t) j) = m ((c : Thread nD τ).loc main_arg0) (ix3 b t j) := by
  rw [V_main_v0]
  refine shapeCast_apply _ _ _ _ ((Shape.rowMajor_val_three _).trans (Eq.trans ?_ (Shape.rowMajor_val_two _).symm))
  show (b.val * 128 + t.val) * 4096 + j.val = (b.val * 128 + t.val) * 4096 + j.val; rfl

/-- A vector's offset. -/
theorem offset_at (n : Fin 80000) : V m c main_v1 (ix2 0 n) = m ((c : Thread nD τ).loc main_arg3) (ix1 n) := by
  rw [V_main_v1]
  refine shapeCast_apply _ _ _ _ ((Shape.rowMajor_val_one _).trans (Eq.trans ?_ (Shape.rowMajor_val_two _).symm))
  show n.val = 0 * 80000 + n.val; omega

/-- A vector's scale. -/
theorem scale_at (n : Fin 80000) : V m c main_v2 (ix2 0 n) = m ((c : Thread nD τ).loc main_arg4) (ix1 n) := by
  rw [V_main_v2]
  refine shapeCast_apply _ _ _ _ ((Shape.rowMajor_val_one _).trans (Eq.trans ?_ (Shape.rowMajor_val_two _).symm))
  show n.val = 0 * 80000 + n.val; omega

/-- A query's offset. -/
theorem shift_at (b : Fin 6) (t : Fin 128) :
    V m c main_v3 (ix2 (row b t) 0) = m ((c : Thread nD τ).loc main_arg5) (ix2 b t) := by
  rw [V_main_v3]
  refine shapeCast_apply _ _ _ _ ((Shape.rowMajor_val_two _).trans (Eq.trans ?_ (Shape.rowMajor_val_two _).symm))
  show b.val * 128 + t.val = (b.val * 128 + t.val) * 1 + 0; omega

/-- The table's entry, from the arguments. -/
theorem entry_eq (b : Fin 6) (t : Fin 128) (n : Fin 80000) :
    entry m c (row b t) n
      = score (m ((c : Thread nD τ).loc main_arg3) (ix1 n)) (m ((c : Thread nD τ).loc main_arg5) (ix2 b t)) (m ((c : Thread nD τ).loc main_arg4) (ix1 n))
          (fun j => m ((c : Thread nD τ).loc main_arg0) (ix3 b t j)) (weight (m ((c : Thread nD τ).loc main_arg2)) (m ((c : Thread nD τ).loc main_arg1)) n) := by
  unfold entry
  rw [V_main_arg1, V_main_arg2]
  exact score_congr (offset_at m c n) (shift_at m c b t) (scale_at m c n) (fun j => query_at m c b t j) (fun j => rfl)

/-- The kernel's result is the reference's of the same arguments. -/
theorem result_eq :
    result m c = value (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨b, t, n, rfl⟩ : ∃ (b : Fin 6) (t : Fin 128) (n : Fin 80000), i = ix3 b t n := ⟨i 0, i 1, i 2, ValueIdx.eq_ix3 i⟩
  refine Eq.trans ?_ (value_apply _ _ _ _ _ _ b t n).symm
  have h : result m c (ix3 b t n) = table m c (ix2 (row b t) n) := by
    refine shapeCast_apply _ _ _ _ ((Shape.rowMajor_val_two _).trans (Eq.trans ?_ (Shape.rowMajor_val_three _).symm))
    show (b.val * 128 + t.val) * 80000 + n.val = (b.val * 128 + t.val) * 80000 + n.val; rfl
  refine h.trans ((entry_eq m c b t n).trans ?_)
  unfold score
  rw [Ideal.ofBits_zero_f32, zero_add, sum_dims]
  simp only [weight_dim]
  rfl

end Cert.KernelIdeal.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame. -/
theorem frame_p : Cert.quiescent_Kernel := fun m ρ _ => Cert.Kernel.Same.frame m ρ

/-- Its idealization's frame. -/
theorem frame_pi : Cert.quiescent_KernelIdeal := fun m ρ _ => Cert.KernelIdeal.Frames.frame m ρ

/-- The reference's frame; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the idealized kernel and the reference end with the same result, their arguments unchanged. -/
theorem algebraic : Cert.algebraic_KernelIdeal_ReferenceIdeal := by
  intro m ρ m' ρ' _ hargs
  refine ⟨fun c => Cert.KernelIdeal.ExactRun.result m c, Cert.KernelIdeal.ExactRun.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hargs c
  rw [h0, h1, h2, h3, h4, h5]
  exact (Cert.KernelIdeal.Equation.result_eq m c).symm

/-- All five claims. -/
theorem claim : Cert.Claim := ⟨Cert.Kernel.Gen.facts, Cert.KernelIdeal.Gen.facts, Cert.ReferenceIdeal.Gen.facts,
  frame_p, frame_pi, frame_ri, trivial, algebraic⟩

end Cert.Proof

end
